-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096 : Shape := ⟨2, ![16, 4096]⟩
abbrev S4096 : Shape := ⟨1, ![4096]⟩
abbrev S_ : Shape := ⟨0, ![]⟩
abbrev S1x4096 : Shape := ⟨2, ![1, 4096]⟩
abbrev S16 : Shape := ⟨1, ![16]⟩

abbrev nBuf : Table → Nat
  | .hbm => 5
  | .local .scVector .vmem => 3
  | _ => 0

abbrev bufTy : (tb : Table) → Fin (nBuf tb) → BufTy
  | .hbm, ⟨0, _⟩ => ⟨S16x4096, .i32⟩
  | .hbm, ⟨1, _⟩ => ⟨S16x4096, .i1⟩
  | .hbm, ⟨2, _⟩ => ⟨S16x4096, .i32⟩
  | .hbm, ⟨3, _⟩ => ⟨S16x4096, .i32⟩
  | .hbm, ⟨4, _⟩ => ⟨S16x4096, .i32⟩
  | .local .scVector .vmem, ⟨0, _⟩ => ⟨S4096, .i32⟩
  | .local .scVector .vmem, ⟨1, _⟩ => ⟨S4096, .i32⟩
  | .local .scVector .vmem, ⟨2, _⟩ => ⟨S4096, .i32⟩
  | _, _ => ⟨S16x4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v0_scv : Ref sig .scVector := ⟨.hbm, 3, rfl⟩
abbrev main_arg0_scv : Ref sig .scVector := ⟨.hbm, 0, rfl⟩
abbrev main_arg2_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r0 : BitVec 32 := 0#32
  ![v1.toNat, 0]
@[reducible] def k0_t1_loop : Scf.Loop 32 :=
  let c0_i32_1 : BitVec 32 := 0#32
  let c256_i32 : BitVec 32 := 256#32
  let v5 : BitVec 32 := Scalar.addi c0_i32_1 c256_i32
  let c1_i32 : BitVec 32 := 1#32
  ⟨c0_i32_1, v5, c1_i32⟩
def k0_off2 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c16_i32_3 : BitVec 32 := 16#32
  let v7 : BitVec 32 := Scalar.muli arg9 c16_i32_3
  let v8 : Index := Scalar.indexCast v7
  ![v8.toNat]

def k0_chk1 (i : grid0.Coords) (v16 : IVec S16 32) : Prop :=
  (∀ (k0_h1 : k0_cond1 i = 1#1), ∀ a x, ((![v16] : Fin 1 → IVec S16 32) a x).toNat < S4096.size a)
theorem k0_idx1_inb : ∀ (i : grid0.Coords) (v16 : IVec S16 32) (k0_hw1 : k0_chk1 i v16), ∀ (k0_h1 : k0_cond1 i = 1#1), ∀ a x, ((![v16] : Fin 1 → IVec S16 32) a x).toNat < S4096.size a := fun i v16 k0_hw1 k0_h1 => k0_hw1 k0_h1
def k0_off3 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c16_i32_8 : BitVec 32 := 16#32
  let v25 : BitVec 32 := Scalar.muli arg9 c16_i32_8
  let v26 : Index := Scalar.indexCast v25
  ![v26.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096 : Shape := ⟨2, ![16, 4096]⟩
abbrev S_ : Shape := ⟨0, ![]⟩
abbrev S16x4096x1 : Shape := ⟨3, ![16, 4096, 1]⟩
abbrev S1 : Shape := ⟨1, ![1]⟩
abbrev S1x1x1 : Shape := ⟨3, ![1, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S16x4096, .i32⟩
  | .hbm, ⟨1, _⟩ => ⟨S16x4096, .i1⟩
  | .hbm, ⟨2, _⟩ => ⟨S16x4096, .i32⟩
  | .hbm, ⟨3, _⟩ => ⟨S_, .i32⟩
  | .hbm, ⟨4, _⟩ => ⟨S16x4096, .i32⟩
  | .hbm, ⟨5, _⟩ => ⟨S16x4096, .i1⟩
  | .hbm, ⟨6, _⟩ => ⟨S_, .i32⟩
  | .hbm, ⟨7, _⟩ => ⟨S16x4096, .i32⟩
  | .hbm, ⟨8, _⟩ => ⟨S16x4096, .i32⟩
  | .hbm, ⟨9, _⟩ => ⟨S16x4096, .i32⟩
  | .hbm, ⟨10, _⟩ => ⟨S_, .i32⟩
  | .hbm, ⟨11, _⟩ => ⟨S_, .i32⟩
  | .hbm, ⟨12, _⟩ => ⟨S16x4096, .i32⟩
  | .hbm, ⟨13, _⟩ => ⟨S_, .i32⟩
  | .hbm, ⟨14, _⟩ => ⟨S16x4096, .i32⟩
  | .hbm, ⟨15, _⟩ => ⟨S16x4096, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S16x4096, .i32⟩
  | .hbm, ⟨20, _⟩ => ⟨S16x4096, .i32⟩
  | .hbm, ⟨21, _⟩ => ⟨S_, .i32⟩
  | .hbm, ⟨22, _⟩ => ⟨S16x4096, .i32⟩
  | .hbm, ⟨23, _⟩ => ⟨S16x4096, .i32⟩
  | .hbm, ⟨24, _⟩ => ⟨S_, .i32⟩
  | .hbm, ⟨25, _⟩ => ⟨S16x4096, .i32⟩
  | .hbm, ⟨26, _⟩ => ⟨S16x4096, .i1⟩
  | .hbm, ⟨27, _⟩ => ⟨S_, .i32⟩
  | .hbm, ⟨28, _⟩ => ⟨S16x4096, .i32⟩
  | .hbm, ⟨29, _⟩ => ⟨S16x4096, .i32⟩
  | .hbm, ⟨30, _⟩ => ⟨S16x4096, .i32⟩
  | .hbm, ⟨31, _⟩ => ⟨S16x4096x1, .i32⟩
  | .hbm, ⟨32, _⟩ => ⟨S1, .i32⟩
  | .hbm, ⟨33, _⟩ => ⟨S_, .i32⟩
  | .hbm, ⟨34, _⟩ => ⟨S16x4096x1, .i32⟩
  | .hbm, ⟨35, _⟩ => ⟨S16x4096x1, .i1⟩
  | .hbm, ⟨36, _⟩ => ⟨S1x1x1, .i32⟩
  | .hbm, ⟨37, _⟩ => ⟨S16x4096x1, .i32⟩
  | .hbm, ⟨38, _⟩ => ⟨S16x4096x1, .i1⟩
  | .hbm, ⟨39, _⟩ => ⟨S16x4096x1, .i1⟩
  | .hbm, ⟨40, _⟩ => ⟨S_, .i1⟩
  | .hbm, ⟨41, _⟩ => ⟨S16x4096, .i1⟩
  | .hbm, ⟨42, _⟩ => ⟨S16x4096, .i32⟩
  | .hbm, ⟨43, _⟩ => ⟨S_, .i32⟩
  | .hbm, ⟨44, _⟩ => ⟨S16x4096, .i32⟩
  | .hbm, ⟨45, _⟩ => ⟨S16x4096, .i32⟩
  | .hbm, ⟨46, _⟩ => ⟨S_, .i32⟩
  | .hbm, ⟨47, _⟩ => ⟨S16x4096, .i32⟩
  | .hbm, ⟨48, _⟩ => ⟨S16x4096, .i32⟩
  | .hbm, ⟨49, _⟩ => ⟨S16x4096, .i32⟩
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call1_call0_c : Ref sig .tc := ⟨.hbm, 10, rfl⟩
abbrev main_call1_call0_v0 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_c_3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v8 : Ref sig .tc := ⟨.hbm, 23, rfl⟩
abbrev main_call3_c : Ref sig .tc := ⟨.hbm, 24, rfl⟩
abbrev main_call3_v0 : Ref sig .tc := ⟨.hbm, 25, rfl⟩
abbrev main_call3_v1 : Ref sig .tc := ⟨.hbm, 26, rfl⟩
abbrev main_call3_c_0 : Ref sig .tc := ⟨.hbm, 27, rfl⟩
abbrev main_call3_v2 : Ref sig .tc := ⟨.hbm, 28, rfl⟩
abbrev main_call3_v3 : Ref sig .tc := ⟨.hbm, 29, rfl⟩
abbrev main_call3_v4 : Ref sig .tc := ⟨.hbm, 30, rfl⟩
abbrev main_call3_v5 : Ref sig .tc := ⟨.hbm, 31, rfl⟩
abbrev main_call3_c_1 : Ref sig .tc := ⟨.hbm, 32, rfl⟩
abbrev main_call3_c_2 : Ref sig .tc := ⟨.hbm, 33, rfl⟩
abbrev main_call3_v6 : Ref sig .tc := ⟨.hbm, 34, rfl⟩
abbrev main_call3_v7 : Ref sig .tc := ⟨.hbm, 35, rfl⟩
abbrev main_call3_v8 : Ref sig .tc := ⟨.hbm, 36, rfl⟩
abbrev main_call3_v9 : Ref sig .tc := ⟨.hbm, 37, rfl⟩
abbrev main_call3_v10 : Ref sig .tc := ⟨.hbm, 38, rfl⟩
abbrev main_call3_v11 : Ref sig .tc := ⟨.hbm, 39, rfl⟩
abbrev main_call3_c_3 : Ref sig .tc := ⟨.hbm, 40, rfl⟩
abbrev main_call3_v12 : Ref sig .tc := ⟨.hbm, 41, rfl⟩
abbrev main_call3_v13 : Ref sig .tc := ⟨.hbm, 42, rfl⟩
abbrev main_call3_c_4 : Ref sig .tc := ⟨.hbm, 43, rfl⟩
abbrev main_call3_v14 : Ref sig .tc := ⟨.hbm, 44, rfl⟩
abbrev main_v9 : Ref sig .tc := ⟨.hbm, 45, rfl⟩
abbrev main_c_4 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩

abbrev nD : Nat := 1
abbrev τ : Topo := Topo.v7x

variable {F : FTy → Type} [FloatOps F]
-- ==== Proof.RowMath.lean ====
/-
  The arithmetic both programs share, free of either program: what one row of the (16, 4096) arrays computes.

  Row `i` of the boolean mask marks some positions. Position `j` reads the action label at the rank of `j` among the
  marked positions up to and including itself, less one (`rank`; zero where nothing is marked yet), keeps it when `j` is
  marked and the label is not the ignored one (-100), takes 0 otherwise (`keep`), and the result is the larger of that and the
  full label at `j` (`out`).

  The lemmas read, in these terms, the words the programs compute: a running sum of 16 mask words, the carried
  count, the index word, and the select that keeps a label.
-/
module

public import Idealize.ShloMosaic.Lib.Routing.Ops
public import Idealize.ShloMosaic.Lib.Routing.OpsSearch
public import Idealize.ShloMosaic.Lib.Routing.Words

@[expose] public section

noncomputable section

namespace Cert.Proof.RowMath

open Idealize.ShloMosaic Idealize.ShloMosaic.ValueIdx Idealize.ShloMosaic.Routing

/-- The shape of the arrays: 16 rows of 4096. -/
abbrev Rows : Shape := ⟨2, ![16, 4096]⟩

variable (b : IVec Rows 1) (act full : IVec Rows 32) (i : Fin 16)

/-- Position `q` of row `i` of the mask as a number, 0 past the row's end. -/
def bit (q : ℕ) : ℕ := if h : q < 4096 then (b (ix2 i ⟨q, h⟩)).toNat else 0

/-- How many of the first `n` positions of row `i` are marked. -/
def cnt (n : ℕ) : ℕ := ((List.range n).map (bit b i)).sum

/-- The rank of position `j` of row `i`: the marked positions up to and including `j`, less one. -/
def rank (j : ℕ) : ℕ := cnt b i (j + 1) - 1

theorem bit_le (q : ℕ) : bit b i q ≤ 1 := by
  unfold bit
  split
  · next h => have := (b (ix2 i ⟨q, h⟩)).isLt; omega
  · exact Nat.zero_le _

theorem cnt_zero : cnt b i 0 = 0 := rfl

/-- The count over `a + n` positions is the count over the first `a` and the `n` that follow. -/
theorem cnt_add (a n : ℕ) : cnt b i (a + n) = cnt b i a + ((List.range n).map fun k => bit b i (a + k)).sum := by
  unfold cnt
  rw [List.range_add, List.map_append, List.sum_append, List.map_map]
  rfl

theorem cnt_le (n : ℕ) : cnt b i n ≤ n := by
  induction n with
  | zero => exact Nat.le_refl 0
  | succ n ih =>
    have h := bit_le b i n
    rw [cnt_add]
    simp only [List.range_one, List.map_cons, List.map_nil, List.sum_cons, List.sum_nil, Nat.add_zero]
    omega

theorem rank_lt {j : ℕ} (hj : j < 4096) : rank b i j < 4096 := by
  have := cnt_le b i (j + 1)
  unfold rank; omega

/-- A label `a` under a mask bit: kept when the bit is set and the label is not the ignored -100, else 0. -/
def keep (c : BitVec 1) (a : BitVec 32) : BitVec 32 := if c = 1#1 ∧ a ≠ 4294967196#32 then a else 0#32

/-- The result at row `i`, position `j`. -/
def out : IVec Rows 32 := fun x =>
  IntOp.maxsi (full x) (keep (b x) (act (ix2 (x 0) ⟨rank b (x 0) (x 1).val, rank_lt b (x 0) (x 1).isLt⟩)))

/-- The mask widened to a word holds the bit as a number. -/
theorem widen (q : Fin 4096) : (b (ix2 i q)).setWidth 32 = BitVec.ofNat 32 (bit b i q.val) := by
  unfold bit
  rw [dif_pos q.isLt]
  apply BitVec.eq_of_toNat_eq
  simp

/-- The running sum, of words that hold the naturals `f 0, f 1, …`, holds at lane `l` the sum of the first `l + 1`. -/
theorem scan_sum {n : ℕ} (v : IVec ⟨1, ![n]⟩ 32) (f : ℕ → ℕ) (hv : ∀ k : Fin n, v (ix1 k) = BitVec.ofNat 32 (f k.val)) (l : Fin n) :
    scan .sum v (ix1 l) = BitVec.ofNat 32 ((List.range (l.val + 1)).map f).sum := by
  have hlane : ∀ k : Fin n, (Shape.ofLane k : (⟨1, ![n]⟩ : Shape).Idx) = ix1 k := fun k => eq_ix1 _
  have hn : 0 < n := l.pos
  unfold scan
  refine (foldl_addi_ofNat _ (fun k : Fin n => v (Shape.ofLane k)) (fun k => f k.val)
    (fun k _ => (congrArg v (hlane k)).trans (hv k)) _ (f 0) ((congrArg v (hlane _)).trans (hv ⟨0, hn⟩))).trans ?_
  congr 1
  -- lanes 1 … l of the lanes 0 … n-1
  have hf : ((List.finRange n).filter fun k => decide (0 < k.val ∧ k.val ≤ l.val)).map (fun k => f k.val)
      = (((List.range n).filter fun k => decide (0 < k ∧ k ≤ l.val)).map f) := by
    rw [← List.map_coe_finRange_eq_range, List.filter_map, List.map_map]
    rfl
  have hr : (List.range n).filter (fun k => decide (0 < k ∧ k ≤ l.val)) = (List.range l.val).map (· + 1) := by
    have hl := l.isLt
    generalize l.val = q at hl
    obtain ⟨r, rfl⟩ : ∃ r, n = (q + 1) + r := ⟨n - (q + 1), by omega⟩
    rw [List.range_add, List.filter_append, List.range_succ_eq_map, List.filter_cons_of_neg (by simp),
      List.filter_eq_self.2, List.filter_eq_nil_iff.2, List.append_nil]
    · intro k hk
      obtain ⟨w, _, rfl⟩ := List.mem_map.1 hk
      exact fun h => by have := (of_decide_eq_true h).2; omega
    · intro k hk
      obtain ⟨w, hw, rfl⟩ := List.mem_map.1 hk
      have := List.mem_range.1 hw
      exact decide_eq_true ⟨Nat.succ_pos w, this⟩
  rw [List.range_succ_eq_map, List.map_cons, List.sum_cons]
  congr 2
  refine hf.trans ?_
  rw [hr]

/-- A word that counts, less one, not below zero: the natural one less. -/
theorem index_word {c p s : ℕ} (hs : c + s < 2 ^ 31) (hp : p = c + s - 1) :
    IntOp.maxsi (IntOp.addi (BitVec.ofNat 32 s) (BitVec.ofNat 32 c - 1#32)) 0#32 = BitVec.ofNat 32 p := by
  have e : IntOp.addi (BitVec.ofNat 32 s) (BitVec.ofNat 32 c - 1#32) = BitVec.ofNat 32 (c + s) - 1#32 := by
    show BitVec.ofNat 32 s + (BitVec.ofNat 32 c - 1#32) = _
    rw [BitVec.ofNat_add, BitVec.sub_eq_add_neg, BitVec.sub_eq_add_neg, ← BitVec.add_assoc, BitVec.add_comm (BitVec.ofNat 32 s)]
  rw [e, maxsi_pred hs, hp]

/-- A label that is not -100 compares unequal to it. -/
theorem cmp_ne {a : BitVec 32} (ha : a ≠ 4294967196#32) : IntOp.cmpi .ne a 4294967196#32 = 1#1 := by
  show BitVec.ofBool (a != 4294967196#32) = 1#1
  rw [bne_iff_ne.2 ha]; rfl

/-- The kernel's select: mask word above zero and label not -100. -/
theorem keep_word (c : BitVec 1) (a : BitVec 32) :
    Scalar.select (IntOp.andi (IntOp.cmpi .sgt (c.setWidth 32) 0#32) (IntOp.cmpi .ne a 4294967196#32)) a 0#32 = keep c a := by
  have hc : c = 0#1 ∨ c = 1#1 := by have := c.isLt; rcases (show c.toNat = 0 ∨ c.toNat = 1 by omega) with h | h <;> [left; right] <;> exact BitVec.eq_of_toNat_eq h
  unfold keep
  by_cases ha : a = 4294967196#32
  · rw [if_neg (by simp [ha]), ha]
    rcases hc with rfl | rfl <;> rfl
  · have hne : IntOp.cmpi .ne a 4294967196#32 = 1#1 := cmp_ne ha
    rw [hne]
    rcases hc with rfl | rfl
    · rw [if_neg (by simp)]; rfl
    · rw [if_pos ⟨rfl, ha⟩]; rfl

/-- The reference's two selects: first the ignored label to 0, then the unmarked position to 0. -/
theorem keep_select (c : BitVec 1) (a : BitVec 32) :
    Scalar.select c (Scalar.select (IntOp.cmpi .ne a 4294967196#32) a 0#32) 0#32 = keep c a := by
  unfold keep
  by_cases hc : c = 1#1
  · subst hc
    by_cases ha : a = 4294967196#32
    · rw [if_neg (by simp [ha]), ha]; rfl
    · have hne : IntOp.cmpi .ne a 4294967196#32 = 1#1 := cmp_ne ha
      rw [hne, if_pos ⟨rfl, ha⟩]; rfl
  · rw [if_neg (fun h => hc h.1)]
    simp [Scalar.select, hc]

end Cert.Proof.RowMath

end
-- ==== Proof.KernelIdealRun.lean ====
/-
  The kernel's run with its values, for any float instance (the program has no float in it).

  The launch: one vector-subcore call over two SparseCores of sixteen tiles. Tile `s` of SparseCore `c` works when
  `2 * s + c < 16`, and then on row `2 * s + c` of each array; the other tiles do nothing. The call hands each tile the
  elements of the four arrays in "its" row (`R c s`, empty for a tile that does nothing): the widened mask, the action
  labels, the full labels and the result. A working tile copies its three rows into its own memory, walks them sixteen
  positions at a time with the count of marked positions carried from trip to trip, and copies the finished row out.

  Proved: every execution terminates without a fault, every semaphore is back at zero, the three arguments are
  unchanged, and the result holds `RowMath.out` of the arguments.
-/
module

public import proofs.«01_k».proof.Defs
public import proofs.«01_k».proof.Proof.RowMath
public import Idealize.ShloMosaic.Lib.WritesUnit
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx (ix1 ix2 eq_ix1 eq_ix2)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions on this program's semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The handshakes' rounds library is the left factor; the transfers' counters the right. -/
abbrev EH : Emb UH (MT nD τ sig (HIx 1) (Elt F) ℕ UU ℕ) := embL

/-! ## The buffers and what they hold -/

variable (m : (ℓ : Loc nD τ sig) → Buf (Elt F) ℓ) (ρ : Dev nD → PrngReg)

/-- Device `d`'s action labels, mask, full labels, widened mask and result. -/
abbrev aLoc (d : Dev nD) : Loc nD τ sig := (SparseCore.T d).loc main_arg0
abbrev bLoc (d : Dev nD) : Loc nD τ sig := (SparseCore.T d).loc main_arg1
abbrev fLoc (d : Dev nD) : Loc nD τ sig := (SparseCore.T d).loc main_arg2
abbrev wLoc (d : Dev nD) : Loc nD τ sig := (SparseCore.T d).loc main_v0
abbrev rLoc (d : Dev nD) : Loc nD τ sig := (SparseCore.T d).loc main_v1

-- the kernel's memrefs as the body table passes them
local notation "wV" => (Memref.whole Cert.KernelIdeal.main_v0_scv : Memref Cert.KernelIdeal.sig Kind.scVector Space.hbm Cert.KernelIdeal.S16x4096 EltTy.i32)
local notation "aV" => (Memref.whole Cert.KernelIdeal.main_arg0_scv : Memref Cert.KernelIdeal.sig Kind.scVector Space.hbm Cert.KernelIdeal.S16x4096 EltTy.i32)
local notation "fV" => (Memref.whole Cert.KernelIdeal.main_arg2_scv : Memref Cert.KernelIdeal.sig Kind.scVector Space.hbm Cert.KernelIdeal.S16x4096 EltTy.i32)
local notation "rV" => (Memref.whole Cert.KernelIdeal.main_v1_scv : Memref Cert.KernelIdeal.sig Kind.scVector Space.hbm Cert.KernelIdeal.S16x4096 EltTy.i32)
local notation "sW" => (Memref.whole Cert.KernelIdeal.cc0_scratch0 : Memref Cert.KernelIdeal.sig Kind.scVector Space.vmem Cert.KernelIdeal.S4096 EltTy.i32)
local notation "sA" => (Memref.whole Cert.KernelIdeal.cc0_scratch1 : Memref Cert.KernelIdeal.sig Kind.scVector Space.vmem Cert.KernelIdeal.S4096 EltTy.i32)
local notation "sR" => (Memref.whole Cert.KernelIdeal.cc0_scratch2 : Memref Cert.KernelIdeal.sig Kind.scVector Space.vmem Cert.KernelIdeal.S4096 EltTy.i32)

/-- The mask widened to words, as @main's first operation leaves it. -/
def wide (d : Dev nD) : Buf (Elt F) (wLoc d) := extui (s := S16x4096) 32 (m (bLoc d)) natLt_1_32

/-- The result of the run. -/
def resV (d : Dev nD) : Buf (Elt F) (rLoc d) := RowMath.out (m (bLoc d)) (m (aLoc d)) (m (fLoc d))

/-- The elements of the arrays that tile `s` of SparseCore `c` works on: row `2 * s + c`, none when there is no such row. -/
def R (c s : ℕ) : Finset S16x4096.Idx := Finset.univ.filter fun x => (x 0).val = 2 * s + c

/-- A tile's share of the four arrays, the result's part at contents `g`. -/
def piece (d : Dev nD) (c s : ℕ) (g : Buf (Elt F) (rLoc d)) : sProp 𝕄 :=
  iprop((wLoc d ↦[R c s]{fullShare} wide m d) ∗ (aLoc d ↦[R c s]{fullShare} m (aLoc d)) ∗ (fLoc d ↦[R c s]{fullShare} m (fLoc d)) ∗ rLoc d ↦[R c s]{fullShare} g)

instance piece_storable (d : Dev nD) (c s : ℕ) (g : Buf (Elt F) (rLoc d)) : BI.Storable (upEmb : UEmb _ 𝕄) (piece m d c s g) := by
  unfold piece; infer_instance

/-- What the call hands each SparseCore and each tile, and takes back: the pieces, the result's at its launch contents on the
    way in and at the run's result on the way back. -/
def P : (K (F := F)).Pay (nD := nD) (Val := Elt F) (Name := ℕ) (U := UU) where
  st := fun q d c => bigSep Finset.univ fun i : Fin ((K (F := F)).nSub q) => piece m d c.val i.val (m (rLoc d))
  dn := fun q d c => bigSep Finset.univ fun i : Fin ((K (F := F)).nSub q) => piece m d c.val i.val (resV m d)
  go := fun _ d c i => piece m d c.val i.val (m (rLoc d))
  td := fun _ d c i => piece m d c.val i.val (resV m d)
  x := fun _ _ => iprop(emp)

variable [FloatOps F]

instance P_storable : (P (F := F) m).IsStorable where
  st _ d c := by unfold P; infer_instance
  dn _ d c := by unfold P; infer_instance
  go _ d c i := by unfold P; infer_instance
  td _ d c i := by unfold P; infer_instance

/-! ## A tile's row -/

section Tile

variable (d : Dev nD) (L : grid0.Coords)

abbrev cV (L : grid0.Coords) : Fin τ.nSC := (L 0).castLE hcore0
abbrev jV (L : grid0.Coords) : Fin τ.nSub := (L 1).castLE hsub0
/-- The tile's thread. -/
abbrev tV (d : Dev nD) (L : grid0.Coords) : Thread nD τ := V d (cV L) (jV L)

omit [FloatOps F] in
/-- The tile works exactly when its row number is below 16. -/
theorem cond_iff : ∀ L : grid0.Coords, k0_cond1 L = 1#1 ↔ 2 * (L 1).val + (L 0).val < 16 := by decide +kernel

variable (h1 : k0_cond1 L = 1#1)

/-- A working tile's row number. -/
abbrev ri (L : grid0.Coords) (h1 : k0_cond1 L = 1#1) : Fin 16 := ⟨2 * (L 1).val + (L 0).val, (cond_iff L).1 h1⟩

/-- The row as the body slices it out of each array. -/
abbrev rowK (L : grid0.Coords) (h1 : k0_cond1 L = 1#1) : Rect S16x4096 := Rect.unit (s := S16x4096) (k0_off1 L) S1x4096.size (k0_off1_inb L h1)
abbrev wRow (L : grid0.Coords) (h1 : k0_cond1 L = 1#1) : Memref sig .scVector .hbm S4096 .i32 := ((wV).slice (rowK L h1) (fun _ => rfl)).squeeze S4096 squeezes_S1x4096_S4096
abbrev aRow (L : grid0.Coords) (h1 : k0_cond1 L = 1#1) : Memref sig .scVector .hbm S4096 .i32 := ((aV).slice (rowK L h1) (fun _ => rfl)).squeeze S4096 squeezes_S1x4096_S4096
abbrev fRow (L : grid0.Coords) (h1 : k0_cond1 L = 1#1) : Memref sig .scVector .hbm S4096 .i32 := ((fV).slice (rowK L h1) (fun _ => rfl)).squeeze S4096 squeezes_S1x4096_S4096
abbrev rRow (L : grid0.Coords) (h1 : k0_cond1 L = 1#1) : Memref sig .scVector .hbm S4096 .i32 := ((rV).slice (Rect.unit (s := S16x4096) (k0_off1 L) ![1, 4096] (k0_off1_inb L h1)) (fun _ => rfl)).squeeze S4096 squeezes_S1x4096_S4096

omit [FloatOps F] in
/-- The row's elements are the tile's share. -/
theorem rowK_set : (rowK L h1).set = R (L 0).val (L 1).val := by
  ext x
  have hx1 : (x 1).val < 4096 := (x 1).isLt
  rw [Rect.mem_set_unit, R, Finset.mem_filter, k0_off1_eq]
  constructor
  · intro h
    have h0 := h 0
    have : 2 * (L 1).val + (L 0).val ≤ (x 0).val ∧ (x 0).val < 2 * (L 1).val + (L 0).val + 1 := h0
    exact ⟨Finset.mem_univ _, by omega⟩
  · rintro ⟨-, h⟩ a
    match a with
    | 0 => show 2 * (L 1).val + (L 0).val ≤ (x 0).val ∧ (x 0).val < 2 * (L 1).val + (L 0).val + 1; omega
    | 1 => show 0 ≤ (x 1).val ∧ (x 1).val < 0 + 4096; omega

omit [FloatOps F] in
theorem set_wRow : (wRow L h1).view.set = R (L 0).val (L 1).val := by
  show (((wV).view.slice (rowK L h1)).reshape S4096 squeezes_S1x4096_S4096.numel_eq).set = _
  rw [View.set_reshape, View.set_slice, ← rowK_set L h1]; exact Finset.map_refl
omit [FloatOps F] in
theorem set_aRow : (aRow L h1).view.set = R (L 0).val (L 1).val := set_wRow L h1
omit [FloatOps F] in
theorem set_fRow : (fRow L h1).view.set = R (L 0).val (L 1).val := set_wRow L h1
omit [FloatOps F] in
theorem set_rRow : (rRow L h1).view.set = R (L 0).val (L 1).val := set_wRow L h1

omit [FloatOps F] in
theorem pts_wRow (g : Buf (Elt F) (wLoc d)) :
    ((wRow L h1).view.loc (tV d L) ↦[(wRow L h1).view.set]{fullShare} g : sProp 𝕄) = wLoc d ↦[R (L 0).val (L 1).val]{fullShare} g := by
  rw [set_wRow]
omit [FloatOps F] in
theorem pts_aRow (g : Buf (Elt F) (aLoc d)) :
    ((aRow L h1).view.loc (tV d L) ↦[(aRow L h1).view.set]{fullShare} g : sProp 𝕄) = aLoc d ↦[R (L 0).val (L 1).val]{fullShare} g := by
  rw [set_aRow]
omit [FloatOps F] in
theorem pts_fRow (g : Buf (Elt F) (fLoc d)) :
    ((fRow L h1).view.loc (tV d L) ↦[(fRow L h1).view.set]{fullShare} g : sProp 𝕄) = fLoc d ↦[R (L 0).val (L 1).val]{fullShare} g := by
  rw [set_fRow]
omit [FloatOps F] in
theorem pts_rRow (g : Buf (Elt F) (rLoc d)) :
    ((rRow L h1).view.loc (tV d L) ↦[(rRow L h1).view.set]{fullShare} g : sProp 𝕄) = rLoc d ↦[R (L 0).val (L 1).val]{fullShare} g := by
  rw [set_rRow]

/-- The four semaphores the body's copies use. -/
abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

omit [FloatOps F] in
/-- The tile's own semaphores: those four and the rest. -/
theorem ownSems0_V :
    (ownSems0 (tV d L) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (tV d L)).erase (cell0 d (cV L) (jV L))).erase (cell1 d (cV L) (jV L))).erase (cell2 d (cV L) (jV L))).erase
              (cell3 d (cV L) (jV L))) fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide, (mem_ownCells (g := cell3 d (cV L) (jV L))).mpr ⟨rfl, by
        show (SemLoc.dma cc0_scoped3.sem : SemLoc sig).isScoped .scVector = true; decide⟩⟩⟩⟩)]

omit [FloatOps F] in
/-- The tile's own buffers: the three scratches, each at some contents, and the rest. -/
theorem ownBufs_V :
    (ownBufs (tV d L) : sProp 𝕄)
      = iprop((∃ f, (tV d L).loc cc0_scratch0 ↦{fullShare} f) ∗ (∃ f, (tV d L).loc cc0_scratch1 ↦{fullShare} f)
          ∗ (∃ f, (tV d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- The body, at the memrefs the launch passes. -/
abbrev bodyV (L : grid0.Coords) : Prog (TpuEff nD τ sig (Elt F) Λ₀ (.scVector (cV L) (jV L))) PUnit :=
  cc0__sc_update L wV (Memref.isWhole_whole _) aV (Memref.isWhole_whole _) fV (Memref.isWhole_whole _) rV (Memref.isWhole_whole _)
    sW (Memref.isWhole_whole _) sA (Memref.isWhole_whole _) sR (Memref.isWhole_whole _) cc0_scoped0 cc0_scoped1 cc0_scoped2 cc0_scoped3

/-- What a tile's run ends with. -/
abbrev doneV (O : CellTallies nD τ sig (HIx 1)) (W : Waits sig (HIx 1)) : sProp 𝕄 :=
  iprop(piece m d (L 0).val (L 1).val (resV m d) ∗ scopedBufs (tV d L) ∗ scopedSems0 (tV d L)
    ∗ ∃ W', ⌜∀ p ∈ W', p ∈ W ∨ p.2 = none ∨ p.2 = some (0 : Fin 1)⌝ ∗ owes (tV d L) O W')

omit [FloatOps F] in
/-- A tile past the sixteen rows has an empty share. -/
theorem R_empty {c s : ℕ} (h : ¬ 2 * s + c < 16) : R c s = ∅ := by
  refine Finset.filter_eq_empty_iff.2 fun x _ e => h ?_
  have : (x 0).val < 16 := (x 0).isLt
  omega

/-- A tile past the sixteen rows does nothing. -/
theorem tile_idle (h0 : ¬ k0_cond1 L = 1#1) (O : CellTallies nD τ sig (HIx 1)) (W : Waits sig (HIx 1)) :
    iprop(levAts (K (F := F)).L (K (F := F)).lev ∗ emp ∗ piece m d (L 0).val (L 1).val (m (rLoc d))
        ∗ scopedBufs (tV d L) ∗ scopedSems0 (tV d L) ∗ owes (tV d L) O W)
      ⊢ wp frame (wpE (defs₀ (F := F)) 𝒱₀ (tV d L) none) Set.univ (bodyV (F := F) L) fun _ => doneV m d L O W := by
  have k0_h1 : ¬ k0_cond1 L = 1#1 := h0
  unfold bodyV doneV
  simp only [cc0__sc_update_eq_skeleton]; unfold cc0__sc_update_skel
  rw [piece, piece, R_empty (fun h => h0 ((cond_iff L).2 h)),
    pointsTo_congr (ℓ := rLoc d) (I := ∅) (q := fullShare) (f := resV m d) (g := m (rLoc d)) (fun _ h => absurd h (Finset.notMem_empty _))]
  iintro ⟨-, -, Hp, Hsb, Hss, HO⟩
  sl_exec
  sl_step
  isplitl [Hp]; · iexact Hp
  isplitl [Hsb]; · iexact Hsb
  isplitl [Hss]; · iexact Hss
  iexists W; isplitr
  · ipureintro; exact fun p hp => .inl hp
  · iexact HO

/-! ## A working tile -/

/-- The tile's three scratch rows: the widened mask's row, the action labels' row, and the full labels' row finished up to
    position `n`. -/
def sWat : Buf (Elt F) ((tV d L).loc cc0_scratch0) := fun x => wide m d (ix2 (ri L h1) (x 0))
def sAat : Buf (Elt F) ((tV d L).loc cc0_scratch1) := fun x => m (aLoc d) (ix2 (ri L h1) (x 0))
def sRat (n : ℕ) : Buf (Elt F) ((tV d L).loc cc0_scratch2) :=
  fun x => if (x 0).val < n then resV m d (ix2 (ri L h1) (x 0)) else m (fLoc d) (ix2 (ri L h1) (x 0))

/-- The loop's invariant before trip `k`: the carried word counts the marked positions before `16 * k`, and the scratch row is
    finished up to there. -/
def inv (k : ℕ) (acc : BitVec 32) : sProp 𝕄 :=
  iprop(⌜acc = BitVec.ofNat 32 (RowMath.cnt (m (bLoc d)) (ri L h1) (16 * k))⌝
    ∗ ((sW).view.loc (tV d L) ↦{fullShare} sWat m d L h1)
    ∗ ((sA).view.loc (tV d L) ↦{fullShare} sAat m d L h1)
    ∗ (sR).view.loc (tV d L) ↦{fullShare} sRat m d L h1 (16 * k))

omit [FloatOps F] in
/-- The row's position `x` is the array's element in the tile's row at `x`. -/
theorem rowK_at (x : S4096.Idx) :
    (rowK L h1).emb (Shape.reshapeEquiv squeezes_S1x4096_S4096.numel_eq x) = ix2 (ri L h1) (x 0) := by
  funext a
  apply Fin.ext
  rw [Rect.emb_apply, Shape.reshapeEquiv_cons_one (n := 1) (d := ![4096]) _ x]
  match a with
  | 0 =>
    show (k0_off1 L) 0 + 1 * 0 = 2 * (L 1).val + (L 0).val
    rw [k0_off1_eq]; rfl
  | 1 =>
    show (k0_off1 L) 1 + 1 * (x 0).val = (x 0).val
    rw [k0_off1_eq]
    show 0 + 1 * (x 0).val = (x 0).val
    omega

omit [FloatOps F] in
/-- The mask's row, read as the copy in reads it. -/
theorem read_wRow : (wRow L h1).view.read (Elt F) (wide m d) = sWat m d L h1 :=
  funext fun x => congrArg (wide m d) (rowK_at L h1 x)
omit [FloatOps F] in
/-- The action labels' row. -/
theorem read_aRow : (aRow L h1).view.read (Elt F) (m (aLoc d)) = sAat m d L h1 :=
  funext fun x => congrArg (m (aLoc d)) (rowK_at L h1 x)
omit [FloatOps F] in
/-- The full labels' row: nothing finished yet. -/
theorem read_fRow : (fRow L h1).view.read (Elt F) (m (fLoc d)) = sRat m d L h1 0 :=
  funext fun x => (congrArg (m (fLoc d)) (rowK_at L h1 x)).trans (if_neg (Nat.not_lt_zero _)).symm

omit [FloatOps F] in
/-- The action row's scratch, held whole, as the indexed load takes it. -/
theorem pts_sA_access (g : Buf (Elt F) ((tV d L).loc cc0_scratch1)) :
    (((sA).access (.whole S4096)).loc (tV d L) ↦[Finset.univ]{fullShare} g : sProp 𝕄) = ((sA).view.loc (tV d L) ↦{fullShare} g) := rfl

omit [FloatOps F] in
/-- A scratch row at whatever a copy fills it with is that row. -/
theorem filled (b : Ref sig .scVector) (g w w' : Buf (Elt F) ((tV d L).loc b)) (e : w = w') :
    ((Memref.whole b).view.loc (tV d L) ↦{fullShare} View.write (Elt F) (Memref.whole b).view g w Finset.univ : sProp 𝕄)
      ⊢ (Memref.whole b).view.loc (tV d L) ↦{fullShare} w' := by
  rw [View.write_whole_univ, e]

/-! One trip: positions `16 * k` to `16 * k + 15` of the row. -/

/-- The sixteen mask words a trip reads. -/
abbrev maskAt (k : Fin k0_t1_loop.trips) : Vec F S16 .i32 :=
  (sW).view.readAt (Elt F) (Rect.unit (s := S4096) (k0_off2 k) S16.size (k0_off2_inb L k h1)).toLoadRect (sWat m d L h1)

omit [FloatOps F] in
theorem lane_lt (k : Fin k0_t1_loop.trips) (l : Fin 16) : 16 * k.val + l.val < 4096 := by
  have h : k.val < 256 := Nat.lt_of_lt_of_le k.isLt Gen.k0_t1_abs.2.1
  have := l.isLt
  omega

omit [FloatOps F] in
/-- Lane `l` of the sixteen positions from `16 * k`. -/
theorem rect_lane (k : Fin k0_t1_loop.trips) {off : Fin 1 → ℕ} (e : off = ![16 * k.val]) (inb : ∀ a, off a + S16.size a ≤ S4096.size a)
    (l : Fin 16) : (Rect.unit (s := S4096) off S16.size inb).emb (ix1 l) = (ix1 ⟨16 * k.val + l.val, lane_lt k l⟩ : S4096.Idx) := by
  subst e
  funext a
  apply Fin.ext
  rw [Rect.emb_apply]
  match a with
  | 0 =>
    show 16 * k.val + 1 * l.val = 16 * k.val + l.val
    omega

omit [FloatOps F] in
/-- Lane `l` of the mask words is the mask bit at position `16 * k + l`, widened; that is, the bit as a number. -/
theorem maskAt_bit (k : Fin k0_t1_loop.trips) (l : Fin 16) :
    maskAt m d L h1 k (ix1 l) = (m (bLoc d) (ix2 (ri L h1) ⟨16 * k.val + l.val, lane_lt k l⟩)).setWidth 32 :=
  congrArg (sWat m d L h1) (rect_lane k (Gen.k0_off2_eq k) (k0_off2_inb L k h1) l)

omit [FloatOps F] in
theorem maskAt_nat (k : Fin k0_t1_loop.trips) (l : Fin 16) :
    maskAt m d L h1 k (ix1 l) = BitVec.ofNat 32 (RowMath.bit (m (bLoc d)) (ri L h1) (16 * k.val + l.val)) :=
  (maskAt_bit m d L h1 k l).trans (RowMath.widen _ _ _)

omit [FloatOps F] in
/-- The running sum at lane `l`: the marked positions from `16 * k` up to and including `16 * k + l`. -/
theorem scan_at (k : Fin k0_t1_loop.trips) (l : Fin 16) :
    scan .sum (maskAt m d L h1 k) (ix1 l)
      = BitVec.ofNat 32 ((List.range (l.val + 1)).map fun q => RowMath.bit (m (bLoc d)) (ri L h1) (16 * k.val + q)).sum :=
  RowMath.scan_sum _ _ (maskAt_nat m d L h1 k) l

variable (k : Fin k0_t1_loop.trips) (acc : BitVec 32)
  (hacc : acc = BitVec.ofNat 32 (RowMath.cnt (m (bLoc d)) (ri L h1) (16 * k.val)))

include hacc

omit [FloatOps F] in
/-- The index word at lane `l` is the rank of position `16 * k + l`. -/
theorem index_at (l : Fin 16) :
    k0_pay1 (F := F) acc (maskAt m d L h1 k) (ix1 l) = BitVec.ofNat 32 (RowMath.rank (m (bLoc d)) (ri L h1) (16 * k.val + l.val)) := by
  have hc := RowMath.cnt_add (m (bLoc d)) (ri L h1) (16 * k.val) (l.val + 1)
  have hle := RowMath.cnt_le (m (bLoc d)) (ri L h1) (16 * k.val + (l.val + 1))
  have hlt := lane_lt k l
  show IntOp.maxsi (IntOp.addi (scan .sum (maskAt m d L h1 k) (ix1 l)) (acc - 1#32)) 0#32 = _
  rw [scan_at, hacc]
  refine RowMath.index_word (by omega) ?_
  rw [RowMath.rank, Nat.add_assoc, hc]

omit [FloatOps F] in
/-- The carried word after the trip counts the marked positions before `16 * (k + 1)`. -/
theorem carry_at :
    Scalar.addi acc (extractAt ![15] (k0_pay3 (F := F) (maskAt m d L h1 k)) inpos_S16_p15)
      = BitVec.ofNat 32 (RowMath.cnt (m (bLoc d)) (ri L h1) (16 * (k.val + 1))) := by
  have e : extractAt ![15] (k0_pay3 (F := F) (maskAt m d L h1 k)) inpos_S16_p15 = scan .sum (maskAt m d L h1 k) (ix1 (15 : Fin 16)) := by
    show scan .sum (maskAt m d L h1 k) (fun a => ⟨(![15] : Fin 1 → ℕ) a, inpos_S16_p15 a⟩) = _
    refine congrArg (scan .sum (maskAt m d L h1 k)) (funext fun a => ?_)
    match a with
    | 0 => rfl
  rw [e, scan_at, hacc, show 16 * (k.val + 1) = 16 * k.val + 16 from by omega, RowMath.cnt_add, BitVec.ofNat_add]
  rfl

omit [FloatOps F] in
/-- The side condition of the indexed load: every index word is below the row's length. -/
theorem chk : k0_chk1 L (k0_pay1 (F := F) acc (maskAt m d L h1 k)) := by
  intro _ a x
  match a with
  | 0 =>
    obtain ⟨l, rfl⟩ : ∃ l : Fin 16, x = ix1 l := ⟨x 0, eq_ix1 x⟩
    show (k0_pay1 (F := F) acc (maskAt m d L h1 k) (ix1 l)).toNat < 4096
    have h := RowMath.rank_lt (m (bLoc d)) (ri L h1) (lane_lt k l)
    rw [index_at m d L h1 k acc hacc l, BitVec.toNat_ofNat, Nat.mod_eq_of_lt (by omega)]
    exact h

omit [FloatOps F] in
/-- The label gathered at lane `l` is the action label at the rank of position `16 * k + l`. -/
theorem gathered (h : ∀ a x, ((![k0_pay1 (F := F) acc (maskAt m d L h1 k)] : Fin 1 → IVec S16 32) a x).toNat < S4096.size a) (l : Fin 16) :
    loadIdx (F := F) (e := .i32) (((sA).access (.whole S4096)).read (Elt F) (sAat m d L h1)) ![k0_pay1 (F := F) acc (maskAt m d L h1 k)] h (ix1 l)
      = m (aLoc d) (ix2 (ri L h1) ⟨RowMath.rank (m (bLoc d)) (ri L h1) (16 * k.val + l.val), RowMath.rank_lt _ _ (lane_lt k l)⟩) := by
  refine (congrFun (Memref.read_access_whole (Elt F) (b := cc0_scratch1) (sAat m d L h1)) _).trans ?_
  refine congrArg (m (aLoc d)) (congrArg (ix2 (ri L h1)) (Fin.ext ?_))
  show (k0_pay1 (F := F) acc (maskAt m d L h1 k) (ix1 l)).toNat = _
  have hr := RowMath.rank_lt (m (bLoc d)) (ri L h1) (lane_lt k l)
  rw [index_at m d L h1 k acc hacc l, BitVec.toNat_ofNat, Nat.mod_eq_of_lt (by omega)]

omit hacc

omit [FloatOps F] in
/-- The row after the trip's store: finished sixteen positions further. -/
theorem stored (w : Vec F S16 .i32)
    (hw : ∀ l : Fin 16, w (ix1 l)
      = m (aLoc d) (ix2 (ri L h1) ⟨RowMath.rank (m (bLoc d)) (ri L h1) (16 * k.val + l.val), RowMath.rank_lt _ _ (lane_lt k l)⟩)) :
    (sR).view.writes (Elt F) (sRat m d L h1 (16 * k.val)) [⟨Rect.unit (s := S4096) (k0_off3 k) S16.size (k0_off3_inb L k h1),
        k0_pay2 (F := F) (maskAt m d L h1 k) w
          ((sR).view.readAt (Elt F) (Rect.unit (s := S4096) (k0_off3 k) S16.size (k0_off3_inb L k h1)).toLoadRect (sRat m d L h1 (16 * k.val)))⟩]
      = sRat m d L h1 (16 * (k.val + 1)) := by
  funext y
  show (sR).view.read (Elt F) ((sR).view.writes (Elt F) (sRat m d L h1 (16 * k.val)) [_]) y = _
  by_cases hy : 16 * k.val ≤ (y 0).val ∧ (y 0).val < 16 * k.val + 16
  · obtain ⟨l, hl⟩ : ∃ l : Fin 16, y = (ix1 ⟨16 * k.val + l.val, lane_lt k l⟩ : S4096.Idx) :=
      ⟨⟨(y 0).val - 16 * k.val, by omega⟩, (eq_ix1 y).trans (congrArg ix1 (Fin.ext (by show (y 0).val = 16 * k.val + ((y 0).val - 16 * k.val); omega)))⟩
    refine (View.read_writes_cons_unit_of_mem (s := S4096) (size := S16.size) (sR).view _ _ _ _ y (ix1 l) (Gen.k0_off3_eq k) (fun a => by
      match a with
      | 0 => rw [hl]; rfl)).trans ?_
    have hf : (sR).view.readAt (Elt F) (Rect.unit (s := S4096) (k0_off3 k) S16.size (k0_off3_inb L k h1)).toLoadRect (sRat m d L h1 (16 * k.val)) (ix1 l)
        = m (fLoc d) (ix2 (ri L h1) ⟨16 * k.val + l.val, lane_lt k l⟩) :=
      (congrArg (sRat m d L h1 (16 * k.val)) (rect_lane k (Gen.k0_off3_eq k) (k0_off3_inb L k h1) l)).trans
        (if_neg (show ¬ 16 * k.val + l.val < 16 * k.val by omega))
    have hp : sRat m d L h1 (16 * (k.val + 1)) y = resV m d (ix2 (ri L h1) ⟨16 * k.val + l.val, lane_lt k l⟩) := by
      rw [hl]; exact if_pos (show 16 * k.val + l.val < 16 * (k.val + 1) by omega)
    rw [hp]
    show IntOp.maxsi _ (Scalar.select (IntOp.andi (IntOp.cmpi .sgt (maskAt m d L h1 k (ix1 l)) 0#32) (IntOp.cmpi .ne (w (ix1 l)) 4294967196#32))
      (w (ix1 l)) 0#32) = _
    rw [hf, hw l, maskAt_bit, RowMath.keep_word]
    rfl
  · rw [View.read_writes_cons_unit_of_not_mem _ _ _ _ _ y (Gen.k0_off3_eq k) 0 (by
      show (y 0).val < 16 * k.val ∨ 16 * k.val + 16 ≤ (y 0).val
      omega)]
    show (if (y 0).val < 16 * k.val then _ else _) = (if (y 0).val < 16 * (k.val + 1) then _ else _)
    by_cases hlt : (y 0).val < 16 * k.val
    · rw [if_pos hlt, if_pos (by omega)]; rfl
    · rw [if_neg hlt, if_neg (by omega)]; rfl

omit [FloatOps F] in
/-- The copy out of the finished row leaves the result's row in the result array. -/
theorem written (n : ℕ) (hn : 4096 ≤ n) (g : Buf (Elt F) (rLoc d)) (w : S4096.Idx → Elt F .i32) (hw : w = sRat m d L h1 n) :
    ((rRow L h1).view.loc (tV d L) ↦[(rRow L h1).view.set]{fullShare} (rRow L h1).view.writes (Elt F) g [⟨Rect.whole S4096, w⟩] : sProp 𝕄)
      = rLoc d ↦[R (L 0).val (L 1).val]{fullShare} resV m d := by
  rw [← pts_rRow (F := F) d L h1]
  refine pointsTo_congr fun i hi => ?_
  obtain ⟨x, -, rfl⟩ := Finset.mem_map.1 hi
  have hr : (rRow L h1).view.writes (Elt F) g [⟨Rect.whole S4096, w⟩] ((rRow L h1).view.emb x) = w x := by
    have := congrFun (View.read_writes_whole (rRow L h1).view g w) x
    rw [View.read_apply, cast_eq] at this
    exact this
  have he : (rRow L h1).view.emb x = ix2 (ri L h1) (x 0) := rowK_at L h1 x
  have hx : (x 0).val < n := lt_of_lt_of_le (show (x 0).val < 4096 from (x 0).isLt) hn
  have hs : sRat m d L h1 n x = resV m d (ix2 (ri L h1) (x 0)) := if_pos hx
  rw [hr, hw, hs]
  exact congrArg (resV m d) he.symm

include h1 in
/-- A tile with a row: the row's result left in the result array, everything else back as it was. -/
theorem tile_work (hF : (K (F := F)).Facts) (O : CellTallies nD τ sig (HIx 1)) (W : Waits sig (HIx 1)) (hO : ∀ g, O g none = 0) :
    iprop(levAts (K (F := F)).L (K (F := F)).lev ∗ emp ∗ piece m d (L 0).val (L 1).val (m (rLoc d))
        ∗ scopedBufs (tV d L) ∗ scopedSems0 (tV d L) ∗ owes (tV d L) O W)
      ⊢ wp frame (wpE (defs₀ (F := F)) 𝒱₀ (tV d L) none) Set.univ (bodyV (F := F) L) fun _ => doneV m d L O W := by
  have k0_h1 : k0_cond1 L = 1#1 := h1
  unfold bodyV doneV piece
  simp only [cc0__sc_update_eq_skeleton]; unfold cc0__sc_update_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hw, Ha, Hf, Hr⟩, ⟨⟨%gw, HsW⟩, ⟨%ga, HsA⟩, ⟨%gr, HsR⟩, Hbufs⟩, ⟨Hc0, Hc1, Hc2, Hc3, Hsems⟩, HO⟩
  ihave Hmw := (show levAts (K (F := F)).L (K (F := F)).lev ⊢ Transfers.MayWaits (tV d L) (default : HIx 1) O from
    (K (F := F)).mayWaits_none (thr := tV d L) hO) $$ Hlv
  ihave Hw' := (Entails.of_eq (pts_wRow (F := F) d L h1 _).symm) $$ Hw
  ihave Ha' := (Entails.of_eq (pts_aRow (F := F) d L h1 _).symm) $$ Ha
  ihave Hf' := (Entails.of_eq (pts_fRow (F := F) d L h1 _).symm) $$ Hf
  ihave HsW' := (Entails.of_eq (show ((tV d L).loc cc0_scratch0 ↦{fullShare} gw : sProp 𝕄) = ((sW).view.loc (tV d L) ↦{fullShare} gw) from rfl)) $$ HsW
  ihave HsA' := (Entails.of_eq (show ((tV d L).loc cc0_scratch1 ↦{fullShare} ga : sProp 𝕄) = ((sA).view.loc (tV d L) ↦{fullShare} ga) from rfl)) $$ HsA
  ihave HsR' := (Entails.of_eq (show ((tV d L).loc cc0_scratch2 ↦{fullShare} gr : sProp 𝕄) = ((sR).view.loc (tV d L) ↦{fullShare} gr) from rfl)) $$ HsR
  sl_exec (disch := exact View.amount_pos _ _ (show 0 < S4096.numel by decide))
  ihave HW := (filled (F := F) d L cc0_scratch0 gw _ _ (show tile_work.sl.dma0 m d L h1 = sWat m d L h1 from read_wRow m d L h1)) $$ HsW'
  ihave HA := (filled (F := F) d L cc0_scratch1 ga _ _ (show tile_work.sl.dma0_1 m d L h1 = sAat m d L h1 from read_aRow m d L h1)) $$ HsA'
  ihave HR := (filled (F := F) d L cc0_scratch2 gr _ _ (show tile_work.sl.dma0_2 m d L h1 = sRat m d L h1 0 from read_fRow m d L h1)) $$ HsR'
  simp only [bind_assoc]
  sl_for (inv m d L h1) $$ [HW HA HR]
  case region =>
    intro k acc
    unfold inv
    iintro ⟨%hacc, HW, HA, HR⟩
    sl_exec
    have hchk : k0_chk1 L (tile_work.sl.v16 m d L h1 k acc) := chk m d L h1 k acc hacc
    rw [wp_assume_of _ _ _ _ hchk]
    ihave HA' := (Entails.of_eq (pts_sA_access (F := F) d L _).symm) $$ HA
    iapply (SparseCore.wp_vectorLoadIdx 𝒱₀ (tV d L) none Set.univ (base := (sA : Memref sig .scVector .vmem S4096 .i32)) (S := Finset.univ) (q := fullShare) (Finset.subset_univ _)) $$ HA'; iintro HA'
    ihave HA := (Entails.of_eq (pts_sA_access (F := F) d L _)) $$ HA'
    sl_exec
    sl_step
    isplitr; · ipureintro; exact carry_at m d L h1 k acc hacc
    isplitl [HW]; · iexact HW
    isplitl [HA]; · iexact HA
    ihave HR' := (Entails.of_eq (congrArg (fun g => ((sR).view.loc (tV d L) ↦{fullShare} g : sProp 𝕄)) (stored m d L h1 k _
      (show ∀ l : Fin 16, loadIdx (F := F) (e := .i32) (((sA).access (.whole cc0_scratch1.ty.shape)).read (Elt F) (sAat m d L h1)) ![tile_work.sl.v16 m d L h1 k acc]
        (k0_idx1_inb L _ hchk h1) (ix1 l) = _ from gathered m d L h1 k acc hacc (k0_idx1_inb L _ hchk h1))))) $$ HR
    iexact HR'
  · unfold inv
    isplitr; · ipureintro; rfl
    isplitl [HW]; · iexact HW
    isplitl [HA]; · iexact HA
    iexact HR
  iintro %acc HI
  unfold inv
  icases HI with ⟨-, HW, HA, HR⟩
  ihave Hr' := (Entails.of_eq (pts_rRow (F := F) d L h1 _).symm) $$ Hr
  sl_exec (disch := exact View.amount_pos _ _ (show 0 < S4096.numel by decide))
  sl_step
  ihave Hw := (Entails.of_eq (pts_wRow (F := F) d L h1 _)) $$ Hw'
  ihave Ha := (Entails.of_eq (pts_aRow (F := F) d L h1 _)) $$ Ha'
  ihave Hf := (Entails.of_eq (pts_fRow (F := F) d L h1 _)) $$ Hf'
  ihave Hr := (Entails.of_eq (written (F := F) m d L h1 (16 * Scf.trips k0_t1_loop.lb k0_t1_loop.ub k0_t1_loop.st) (by decide) _ _
    (show tile_work.sl.dma0_3 m d L h1 = _ from rfl))) $$ Hr'
  isplitl [Hw Ha Hf Hr]
  · isplitl [Hw]; · iexact Hw
    isplitl [Ha]; · iexact Ha
    isplitl [Hf]; · iexact Hf
    iexact Hr
  isplitl [HW HA HR Hbufs]
  · isplitl [HW]; · iexists _; iexact HW
    isplitl [HA]; · iexists _; iexact HA
    isplitl [HR]; · iexists _; iexact HR
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists _; isplitr
  rotate_left
  · iexact HO
  · ipureintro
    intro p hp
    rcases p.2 with _ | q
    · exact .inr (.inl rfl)
    · exact .inr (.inr (congrArg some (Subsingleton.elim q 0)))

/-- A tile's run, whether it has a row or not. -/
theorem tile_body (hF : (K (F := F)).Facts) (O : CellTallies nD τ sig (HIx 1)) (W : Waits sig (HIx 1)) (hO : ∀ g, O g none = 0) :
    iprop(levAts (K (F := F)).L (K (F := F)).lev ∗ emp ∗ piece m d (L 0).val (L 1).val (m (rLoc d))
        ∗ scopedBufs (tV d L) ∗ scopedSems0 (tV d L) ∗ owes (tV d L) O W)
      ⊢ wp frame (wpE (defs₀ (F := F)) 𝒱₀ (tV d L) none) Set.univ (bodyV (F := F) L) fun _ => doneV m d L O W := by
  by_cases h : k0_cond1 L = 1#1
  · exact tile_work m d L h hF O W hO
  · exact tile_idle m d L h O W

/-! ## The launch's obligation for the tiles -/

/-- A grid point from its two coordinates. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => bodyV (F := F) (coordsV c s)) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Tile

/-! ## The arrays split among the tiles -/

omit [FloatOps F] in
/-- A SparseCore hands its tiles exactly what it was handed. -/
theorem vecSplit : (K (F := F)).VecSplit' (P m) 0 := by
  intro d c
  show (bigSep Finset.univ fun i : Fin ((K (F := F)).nSub 0) => piece m d c.val i.val (m (rLoc d))) ⊢ |={Set.univ}=> iprop(
      (bigSep Finset.univ fun i : Fin ((K (F := F)).nSub 0) => piece m d c.val i.val (m (rLoc d)))
      ∗ ((bigSep Finset.univ fun i : Fin ((K (F := F)).nSub 0) => piece m d c.val i.val (resV m d))
          -∗ bigSep Finset.univ fun i : Fin ((K (F := F)).nSub 0) => piece m d c.val i.val (resV m d)))
  iintro H; imodintro
  isplitl [H]; · iexact H
  iintro H; iexact H

theorem R_disjoint {c s c' s' : ℕ} (hc : c < 2) (hc' : c' < 2) (h : ¬ (c = c' ∧ s = s')) : Disjoint (R c s) (R c' s') := by
  refine Finset.disjoint_left.2 fun x hx hx' => h ?_
  have e := (Finset.mem_filter.1 hx).2
  have e' := (Finset.mem_filter.1 hx').2
  omega

/-- The elements one SparseCore's tiles work on. -/
def C (c : Fin 2) : Finset S16x4096.Idx := Finset.univ.biUnion fun i : Fin 16 => R c.val i.val

theorem C_disjoint : ∀ c ∈ (Finset.univ : Finset (Fin 2)), ∀ c' ∈ (Finset.univ : Finset (Fin 2)), c ≠ c' → Disjoint (C c) (C c') := by
  intro c _ c' _ h
  refine (Finset.disjoint_biUnion_left _ _ _).2 fun i _ => (Finset.disjoint_biUnion_right _ _ _).2 fun i' _ => ?_
  exact R_disjoint c.isLt c'.isLt fun e => h (Fin.ext e.1)

theorem C_cover : (Finset.univ : Finset (Fin 2)).biUnion C = Finset.univ := by
  refine Finset.eq_univ_iff_forall.2 fun x => ?_
  have hx : (x 0).val < 16 := (x 0).isLt
  refine Finset.mem_biUnion.2 ⟨⟨(x 0).val % 2, by omega⟩, Finset.mem_univ _, ?_⟩
  refine Finset.mem_biUnion.2 ⟨⟨(x 0).val / 2, by omega⟩, Finset.mem_univ _, ?_⟩
  refine Finset.mem_filter.2 ⟨Finset.mem_univ _, ?_⟩
  show (x 0).val = 2 * ((x 0).val / 2) + (x 0).val % 2
  omega

omit [FloatOps F] in
/-- An array of 16 rows held whole is the tiles' rows of it. -/
theorem whole_rows (ℓ : Loc nD τ sig) (f : Buf (Elt F) ℓ) (T : Fin 2 → Finset (Idx ℓ)) (U : Fin 2 → Fin 16 → Finset (Idx ℓ))
    (hT : ∀ c, T c = Finset.univ.biUnion (U c))
    (hU : ∀ c, ∀ i ∈ (Finset.univ : Finset (Fin 16)), ∀ j ∈ (Finset.univ : Finset (Fin 16)), i ≠ j → Disjoint (U c i) (U c j))
    (hd : ∀ c ∈ (Finset.univ : Finset (Fin 2)), ∀ c' ∈ (Finset.univ : Finset (Fin 2)), c ≠ c' → Disjoint (T c) (T c'))
    (hc : (Finset.univ : Finset (Fin 2)).biUnion T = Finset.univ) :
    (ℓ ↦{fullShare} f : sProp 𝕄)
      = bigSep Finset.univ fun c : Fin 2 => bigSep Finset.univ fun i : Fin 16 => ℓ ↦[U c i]{fullShare} f := by
  refine (show (ℓ ↦{fullShare} f : sProp 𝕄) = ℓ ↦[(Finset.univ : Finset (Fin 2)).biUnion T]{fullShare} f from by rw [hc]).trans ?_
  rw [pointsTo_biUnion Finset.univ (ℓ := ℓ) T hd]
  refine bigSep_congr fun c _ => ?_
  rw [hT c, pointsTo_biUnion Finset.univ (ℓ := ℓ) (U c) (hU c)]

theorem R_tiles (c : Fin 2) : ∀ i ∈ (Finset.univ : Finset (Fin 16)), ∀ j ∈ (Finset.univ : Finset (Fin 16)), i ≠ j →
    Disjoint (R c.val i.val) (R c.val j.val) :=
  fun i _ j _ h => R_disjoint c.isLt c.isLt fun e => h (Fin.ext e.2)

omit [FloatOps F] in
/-- All the pieces together are the four arrays whole. -/
theorem pieces (d : Dev nD) (g : Buf (Elt F) (rLoc d)) :
    (bigSep Finset.univ fun c : Fin 2 => bigSep Finset.univ fun i : Fin 16 => piece m d c.val i.val g : sProp 𝕄)
      = iprop((wLoc d ↦{fullShare} wide m d) ∗ (aLoc d ↦{fullShare} m (aLoc d)) ∗ (fLoc d ↦{fullShare} m (fLoc d)) ∗ rLoc d ↦{fullShare} g) := by
  unfold piece
  simp only [bigSep_sep']
  rw [whole_rows (wLoc d) (wide m d) C (fun c i => R c.val i.val) (fun _ => rfl) R_tiles C_disjoint C_cover,
    whole_rows (aLoc d) (m (aLoc d)) C (fun c i => R c.val i.val) (fun _ => rfl) R_tiles C_disjoint C_cover,
    whole_rows (fLoc d) (m (fLoc d)) C (fun c i => R c.val i.val) (fun _ => rfl) R_tiles C_disjoint C_cover,
    whole_rows (rLoc d) g C (fun c i => R c.val i.val) (fun _ => rfl) R_tiles C_disjoint C_cover]

/-! ## The launch element: the handshakes' rounds, nothing of the kernel's own -/

def u₀ : UU := (initOf (K (F := F)).hsCells (K (F := F)).hsToks, 1)

omit [FloatOps F] in
theorem emps {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## @main on the TensorCore -/

abbrev a' : DevRef τ sig := Proc.devRef .tc (main_arg0 : Ref sig .tc)
abbrev b' : DevRef τ sig := Proc.devRef .tc (main_arg1 : Ref sig .tc)
abbrev f' : DevRef τ sig := Proc.devRef .tc (main_arg2 : Ref sig .tc)
abbrev w' : DevRef τ sig := Proc.devRef .tc (main_v0 : Ref sig .tc)
abbrev r' : DevRef τ sig := Proc.devRef .tc (main_v1 : Ref sig .tc)

/-- @main's one operation besides the call: the mask widened. -/
abbrev opExt : HloOp τ sig (Elt F) :=
  StableHlo.unary main_arg1 main_v0 ((extui 32 · natLt_1_32) : (⟨S16x4096, .i1⟩ : BufTy).Contents (Elt F) → (⟨S16x4096, .i32⟩ : BufTy).Contents (Elt F))

/-- The TensorCore's arrays, all unscoped. -/
abbrev S5 : Finset (DevRef τ sig) := {a', b', f', w', r'}

theorem hExt : (opExt (F := F)).bufs ⊆ S5 := show ({b', w'} : Finset (DevRef τ sig)) ⊆ S5 by decide

omit [FloatOps F] in
theorem held_S5 (d : Dev nD) (W : Valuation τ sig (Elt F)) :
    (held (SparseCore.T d) S5 W : sProp 𝕄)
      = iprop((aLoc d ↦{fullShare} W a') ∗ (bLoc d ↦{fullShare} W b') ∗ (fLoc d ↦{fullShare} W f') ∗ (wLoc d ↦{fullShare} W w') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

/-- The arrays at launch. -/
def V0 (d : Dev nD) : Valuation τ sig (Elt F) := fun b => m (d, b)

omit [FloatOps F] in
theorem unscoped_held (d : Dev nD) : (unscopedBufs d (fun b => m ((SparseCore.T d).loc b)) : sProp 𝕄) = held (SparseCore.T d) S5 (V0 m d) := by
  rw [held_S5]
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]
  rfl

/-- The arrays after the mask is widened. -/
theorem held_V1 (d : Dev nD) :
    (held (SparseCore.T d) S5 ((opExt (F := F)).result (V0 m d)) : sProp 𝕄)
      = iprop((aLoc d ↦{fullShare} m (aLoc d)) ∗ (bLoc d ↦{fullShare} m (bLoc d)) ∗ (fLoc d ↦{fullShare} m (fLoc d))
          ∗ (wLoc d ↦{fullShare} wide m d) ∗ rLoc d ↦{fullShare} m (rLoc d)) := by
  rw [held_S5, (opExt (F := F)).result_of_not_mem (V0 m d) (b := a') (show a' ∉ ({w'} : Finset (DevRef τ sig)) by decide),
    (opExt (F := F)).result_of_not_mem (V0 m d) (b := b') (show b' ∉ ({w'} : Finset (DevRef τ sig)) by decide),
    (opExt (F := F)).result_of_not_mem (V0 m d) (b := f') (show f' ∉ ({w'} : Finset (DevRef τ sig)) by decide),
    (opExt (F := F)).result_of_not_mem (V0 m d) (b := r') (show r' ∉ ({w'} : Finset (DevRef τ sig)) by decide),
    show (opExt (F := F)).result (V0 m d) w' = wide m d from StableHlo.unary_result _ _ _ _ _ _]
  rfl

theorem st0_eq (d : Dev nD) :
    (bigSep Finset.univ fun c : Fin ((K (F := F)).nCore 0) => (P m).st 0 d c)
      = iprop((wLoc d ↦{fullShare} wide m d) ∗ (aLoc d ↦{fullShare} m (aLoc d)) ∗ (fLoc d ↦{fullShare} m (fLoc d)) ∗ rLoc d ↦{fullShare} m (rLoc d)) :=
  pieces m d _
theorem dn0_eq (d : Dev nD) :
    (bigSep Finset.univ fun c : Fin ((K (F := F)).nCore 0) => (P m).dn 0 d c)
      = iprop((wLoc d ↦{fullShare} wide m d) ∗ (aLoc d ↦{fullShare} m (aLoc d)) ∗ (fLoc d ↦{fullShare} m (fLoc d)) ∗ rLoc d ↦{fullShare} resV m d) :=
  pieces m d _

/-- What @main leaves the claims: the arguments at their launch contents, the result at `resV`. -/
abbrev FIN (d : Dev nD) : sProp 𝕄 :=
  iprop((aLoc d ↦{fullShare} m (aLoc d)) ∗ (bLoc d ↦{fullShare} m (bLoc d)) ∗ (fLoc d ↦{fullShare} m (fLoc d)) ∗ rLoc d ↦{fullShare} resV m d)

/-- @main on device `d`'s TensorCore: the widening, then the call from the four arrays; the mask kept beside it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opExt) (S := S5) hExt (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hm, Hf, Hw, Hr⟩
  iapply ((K (F := F)).wp_run (D (F := F)) 𝒱 (EH := EH) (P := P m) κ d 0) $$ [Hst Ha Hf Hw Hr Hb Hm Hts]
  isplitr; · iexact Hctx
  isplitl [Hst]; · iexact Hst
  isplitl [Ha Hf Hw Hr]
  · rw [st0_eq]
    isplitl [Hw]; · iexact Hw
    isplitl [Ha]; · iexact Ha
    isplitl [Hf]; · iexact Hf
    iexact Hr
  iintro ⟨Hst, Hdn⟩
  ihave Hdn' := (Entails.of_eq (dn0_eq m d)) $$ Hdn
  icases Hdn' with ⟨-, Ha, Hf, Hr⟩
  imodintro
  isplitl [Hst]; · iexact Hst
  isplitr [Hb Hts]
  · isplitl [Ha]; · iexact Ha
    isplitl [Hm]; · iexact Hm
    isplitl [Hf]; · iexact Hf
    iexact Hr
  isplitl [Hb] <;> iassumption

/-! ## The program's run -/

/-- What the claims read of device `d`'s final memory. -/
def final (d : Dev nD) (M : (ℓ : Loc nD τ sig) → Buf (Elt F) ℓ) : Prop :=
  M (aLoc d) = m (aLoc d) ∧ M (bLoc d) = m (bLoc d) ∧ M (fLoc d) = m (fLoc d) ∧ M (rLoc d) = resV m d

def fq (d : Dev nD) (s' : Phys nD τ sig (Elt F)) : Prop := final m d s'.mem.mem

omit [FloatOps F] in
/-- Memory holds what an array held whole says. -/
theorem agree (ℓ : Loc nD τ sig) (f : Buf (Elt F) ℓ) (s' : Phys nD τ sig (Elt F)) :
    iprop(SI s' ∗ ℓ ↦{fullShare} f) ⊢ (iprop(⌜s'.mem.mem ℓ = f⌝ ∗ SI s') : sProp 𝕄) := by
  refine (persistent_entails_right (SI_pointsTo_agree (st := s') (ℓ := ℓ) (I := Finset.univ) (q := fullShare) (f := f))).trans ?_
  iintro ⟨%h, HSI, -⟩
  isplitr; · ipureintro; exact funext fun i => h i (Finset.mem_univ i)
  iexact HSI

omit [FloatOps F] in
theorem hfin (d : Dev nD) (s' : Phys nD τ sig (Elt F)) : iprop(FIN m d ∗ SI s') ⊢ (⌜fq m d s'⌝ : sProp 𝕄) := by
  iintro ⟨⟨Ha, Hb, Hf, Hr⟩, HSI⟩
  ihave H := (agree (F := F) (aLoc d) _ s') $$ [HSI Ha]
  · isplitl [HSI] <;> iassumption
  icases H with ⟨%ha, HSI⟩
  ihave H := (agree (F := F) (bLoc d) _ s') $$ [HSI Hb]
  · isplitl [HSI] <;> iassumption
  icases H with ⟨%hb, HSI⟩
  ihave H := (agree (F := F) (fLoc d) _ s') $$ [HSI Hf]
  · isplitl [HSI] <;> iassumption
  icases H with ⟨%hf, HSI⟩
  ihave H := (agree (F := F) (rLoc d) _ s') $$ [HSI Hr]
  · isplitl [HSI] <;> iassumption
  icases H with ⟨%hr, -⟩
  ipureintro; exact ⟨ha, hb, hf, hr⟩

/-- What every execution ends with. -/
def QC : PUnit × MemSt nD τ sig (Elt F) → Prop := fun r => (∀ c : Dev nD, final m c r.2.mem) ∧ r.2.sem = fun _ => 0

/-- Every execution of the program terminates without a fault, the arguments unchanged, the result at `resV`, every semaphore at
    zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdealRun

end
-- ==== Proof.ReferenceValue.lean ====
/-
  What the reference leaves in its result, in the terms of Proof/RowMath.lean.

  The reference takes the running count of the mask along each row as one windowed sum (`counts`), makes it an index —
  less one, clipped to [0, 4095] (`clipped`), with a wrap of negative indices that never applies (`wrapped`) — and takes the
  labels, the ignored ones already replaced by 0, along the row at it: a gather guarded by a check that the index is in
  range (`checked`), which always holds. The result is the larger of that, at the marked positions, and the full labels.
  `value` collects these into `RowMath.out`.
-/
module

public import proofs.«01_k».proof.Proof.RowMath
public import proofs.«01_k».proof.Proof.Gen.ReferenceIdeal
public import Idealize.ShloMosaic.Lib.ReduceAll
public import Idealize.ShloMosaic.Lib.Routing.OpsPair
public import Idealize.ShloMosaic.Lib.Pipeline.Value

@[expose] public section

noncomputable section

namespace Cert.Proof.ReferenceValue

open Cert.ReferenceIdeal Cert.ReferenceIdeal.Gen Idealize.ShloMosaic Idealize.ShloMosaic.TcCoe Idealize.SL.Sem
open Idealize.ShloMosaic.ValueIdx Idealize.ShloMosaic.Routing

variable (b : IVec S16x4096 1)

/-! ## The index -/

/-- The running count of the mask along each row, as the reference computes it: at each position the sum of the 4096
    widened mask words that end there, what lies before the row's start counting 0. -/
def counts : IVec S16x4096 32 :=
  Host.reduceWindow IntOp.addi ![1, 4096] ![1, 1] ![0, 4095] ![0, 0] (extui 32 b natLt_1_32)
    (broadcastInDim S_ ![] bcast_S_S_ (constantI S_ 32 0#32)) reduceWindows_S16x4096_S16x4096_w1s1p0_0_w4096s1p4095_0 h_S_

/-- The running count at a position is the count of marked positions up to and including it. -/
theorem counts_at (i : Fin 16) (j : Fin 4096) : counts b (ix2 i j) = BitVec.ofNat 32 (RowMath.cnt b i (j.val + 1)) := by
  have hj := j.isLt
  unfold counts Host.reduceWindow
  refine (foldl_addi_ofNat _ _ (fun n => if 4095 ≤ j.val + n.val then RowMath.bit b i (j.val + n.val - 4095) else 0)
    (fun n _ => ?_) _ 0 rfl).trans ?_
  · -- window element `n` lies at row `i`, position `j + n - 4095`
    have hr : ((shape2 1 4096).rowMajor.symm n 0).val = 0 := by rw [symm2]; rfl
    have hp : ((shape2 1 4096).rowMajor.symm n 1).val = n.val := by rw [symm2]; rfl
    have hn : n.val < 4096 := (n.cast (numel2 4096)).isLt
    have er : i.val * 1 + ((shape2 1 4096).rowMajor.symm n 0).val - 0 = i.val := by omega
    have ep : j.val * 1 + ((shape2 1 4096).rowMajor.symm n 1).val - 4095 = j.val + n.val - 4095 := by omega
    dsimp only
    split
    · next hin =>
      have h1 : 4095 ≤ j.val * 1 + ((shape2 1 4096).rowMajor.symm n 1).val := (hin 1).1
      rw [if_pos (by omega)]
      refine Eq.trans ?_ (RowMath.widen b i ⟨j.val + n.val - 4095, by omega⟩)
      refine congrArg (fun x => (b x).setWidth 32) (funext fun a => Fin.ext ?_)
      match a with
      | ⟨0, _⟩ => exact er
      | ⟨1, _⟩ => exact ep
    · next hin =>
      rw [if_neg fun hle => hin fun a => by
        match a with
        | ⟨0, _⟩ => exact ⟨Nat.zero_le _, er.trans_lt i.isLt⟩
        | ⟨1, _⟩ =>
          refine ⟨?_, ep.trans_lt (show j.val + n.val - 4095 < 4096 by omega)⟩
          show 4095 ≤ j.val * 1 + ((shape2 1 4096).rowMajor.symm n 1).val
          omega]
      rfl
  · rw [Nat.zero_add, map_finRange_val _ (fun w => if 4095 ≤ j.val + w then RowMath.bit b i (j.val + w - 4095) else 0)]
    refine congrArg (BitVec.ofNat 32) (Eq.trans ?_ (sum_window (RowMath.bit b i) 4095 j.val (by omega)))
    exact congrArg (fun M => ((List.range M).map fun w => if 4095 ≤ j.val + w then RowMath.bit b i (j.val + w - 4095) else 0).sum)
      (numel2 4096)

/-- The count less one, clipped to [0, 4095]. -/
def clipped : IVec S16x4096 32 :=
  minsi (broadcastInDim S16x4096 ![] bcast_S_S16x4096 (id (constantI S_ 32 4095#32)))
    (maxsi (broadcastInDim S16x4096 ![] bcast_S_S16x4096 (id (constantI S_ 32 0#32)))
      (subi (counts b) (broadcastInDim S16x4096 ![] bcast_S_S16x4096 (constantI S_ 32 1#32))))

/-- A count of at most 4096 as a word, less one and clipped to [0, 4095]: the natural one less. -/
theorem clip_pred {c : ℕ} (hc : c ≤ 4096) :
    IntOp.minsi 4095#32 (IntOp.maxsi 0#32 (IntOp.subi (BitVec.ofNat 32 c) 1#32)) = BitVec.ofNat 32 (c - 1) := by
  rcases Nat.eq_zero_or_pos c with rfl | h
  · decide
  · rw [show IntOp.subi (BitVec.ofNat 32 c) 1#32 = BitVec.ofNat 32 (c - 1) from ofNat32_sub h,
      clip_word (x := c - 1) (lo := 0) (hi := 4095) (by omega) (by omega) (by omega)]
    congr 1
    omega

/-- The clipped index is the rank. -/
theorem clipped_at (i : Fin 16) (j : Fin 4096) : clipped b (ix2 i j) = BitVec.ofNat 32 (RowMath.rank b i j.val) := by
  have hc := RowMath.cnt_le b i (j.val + 1)
  have hj := j.isLt
  show IntOp.minsi 4095#32 (IntOp.maxsi 0#32 (IntOp.subi (counts b (ix2 i j)) 1#32)) = _
  rw [counts_at]
  exact clip_pred (by omega)

/-- The index with 4096 added where it is negative. -/
def wrapped : IVec S16x4096 32 :=
  select (cmpi .slt (clipped b) (broadcastInDim S16x4096 ![] bcast_S_S16x4096 (constantI S_ 32 0#32)))
    (addi (clipped b) (broadcastInDim S16x4096 ![] bcast_S_S16x4096 (constantI S_ 32 4096#32))) (clipped b)

/-- A word that holds a natural below 4096 is not negative: the wrap leaves it. -/
theorem wrap_word {r : ℕ} (hr : r < 4096) (a : BitVec 32) :
    Scalar.select (IntOp.cmpi .slt (BitVec.ofNat 32 r) 0#32) a (BitVec.ofNat 32 r) = BitVec.ofNat 32 r :=
  wrap_of_lt _ _ (by rw [BitVec.toNat_ofNat, Nat.mod_eq_of_lt (by omega)]; omega)

/-- It is nowhere negative: still the rank. -/
theorem wrapped_at (i : Fin 16) (j : Fin 4096) : wrapped b (ix2 i j) = BitVec.ofNat 32 (RowMath.rank b i j.val) := by
  refine (congrArg (fun w => Scalar.select (IntOp.cmpi .slt w 0#32) (IntOp.addi w 4096#32) w) (clipped_at b i j)).trans ?_
  exact wrap_word (RowMath.rank_lt b i j.isLt) _

/-- The index with a third axis of extent one: what the gather takes. -/
def starts : IVec S16x4096x1 32 := shapeCast _ (wrapped b) shapeCasts_S16x4096_S16x4096x1

theorem starts_at (i : Fin 16) (j : Fin 4096) (k : Fin 1) : starts b (ix3 i j k) = BitVec.ofNat 32 (RowMath.rank b i j.val) := by
  refine (shapeCast_apply (wrapped b) shapeCasts_S16x4096_S16x4096x1 (ix3 i j k) (ix2 i j) ?_).trans (wrapped_at b i j)
  rw [Shape.rowMajor_val_two, Shape.rowMajor_val_three]
  have hk := k.isLt
  show i.val * 4096 + j.val = (i.val * 4096 + j.val) * 1 + k.val
  omega

/-! ## The check and the gather -/

/-- Whether each index lies in [0, 4095]. -/
def checked : IVec S16x4096 1 :=
  Host.reduce IntOp.andi
    (andi (cmpi .sge (starts b) (broadcastInDim S16x4096x1 ![] bcast_S_S16x4096x1 (constantI S_ 32 0#32)))
      (cmpi .sle (starts b) (broadcastInDim S16x4096x1 ![0, 1, 2] bcast_S1x1x1_S16x4096x1_0_1_2
        (broadcastInDim S1x1x1 ![2] bcast_S1_S1x1x1_2 (constantI S1 32 4095#32)))))
    (constantI S_ 1 1#1) reducesTo_S16x4096x1_S16x4096_d2 h_S_

/-- Each does. -/
theorem checked_at (x : S16x4096.Idx) : checked b x = 1#1 := by
  refine Host.reduce_andi_one _ _ _ _ _ rfl fun y => ?_
  have hr := RowMath.rank_lt b (y 0) (y 1).isLt
  show IntOp.andi (IntOp.cmpi .sge (starts b y) 0#32) (IntOp.cmpi .sle (starts b y) 4095#32) = 1#1
  rw [show starts b y = BitVec.ofNat 32 (RowMath.rank b (y 0) (y 1).val) from
      (congrArg (starts b) (eq_ix3 y)).trans (starts_at b (y 0) (y 1) (y 2)),
    (WordCmp.cmpi_sge_ofNat_eq_one_iff (w := 32) (b := 0) (by omega) (by omega)).2 (Nat.zero_le _),
    (WordCmp.cmpi_sle_ofNat_eq_one_iff (w := 32) (b := 4095) (by omega) (by omega)).2 (by omega)]
  rfl

/-- The gather along the rows, read at row `i`, position `j`, where the start index there holds a position `p` of the row:
    the array at row `i`, position `p`. -/
theorem gather_at (v : IVec S16x4096 32) (st : IVec S16x4096x1 32) (i : Fin 16) (j p : Fin 4096)
    (hp : st (ix3 i j 0) = BitVec.ofNat 32 p.val) :
    Host.gather gather_S16x4096_S16x4096x1_S16x4096_n_1_0_0_1_2_11 v st (ix2 i j) = v (ix2 i p) := by
  unfold Host.gather
  refine congrArg v (funext fun a => Fin.ext ?_)
  show GatherDims.start _ (ix2 i j) st a + GatherDims.batchCoord _ (ix2 i j) a + GatherDims.offCoord _ (ix2 i j) a = _
  match a with
  | ⟨0, _⟩ =>
    -- the rows go together: no start, the result's own row
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    rfl
  | ⟨1, _⟩ =>
    -- along the row: the start index, which the clamp to [0, 4095] leaves
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    have hsi : ∀ c, GatherDims.siIdx gather_S16x4096_S16x4096x1_S16x4096_n_1_0_0_1_2_11 (ix2 i j) c = ix3 i j 0 := fun c => by
      funext d
      refine Fin.ext ?_
      match d with
      | ⟨0, _⟩ => rfl
      | ⟨1, _⟩ => rfl
      | ⟨2, _⟩ => exact Nat.lt_one_iff.1 c.isLt
    unfold GatherDims.start
    refine (dif_pos (List.mem_singleton.mpr rfl)).trans ?_
    rw [hsi, hp]
    show min (BitVec.ofNat 32 p.val).toInt.toNat 4095 = p.val
    have hlt := p.isLt
    rw [WordCmp.toInt_ofNat_of_lt (w := 32) (by omega)]
    simp only [Int.toNat_natCast]
    omega

/-! ## The result -/

variable (act full : IVec S16x4096 32)

/-- The labels with the ignored ones replaced by 0. -/
def labels : IVec S16x4096 32 :=
  select (cmpi .ne act (broadcastInDim S16x4096 ![] bcast_S_S16x4096 (constantI S_ 32 4294967196#32))) act
    (broadcastInDim S16x4096 ![] bcast_S_S16x4096 (constantI S_ 32 0#32))

/-- The reference's result as its operations compose it. -/
def result : IVec S16x4096 32 :=
  maxsi full (select b
    (select (checked b) (Host.gather gather_S16x4096_S16x4096x1_S16x4096_n_1_0_0_1_2_11 (labels act) (starts b))
      (broadcastInDim S16x4096 ![] bcast_S_S16x4096 (constantI S_ 32 2147483648#32)))
    (broadcastInDim S16x4096 ![] bcast_S_S16x4096 (constantI S_ 32 0#32)))

/-- It is, at each position, the larger of the full label and the label at the position's rank, kept when marked and not
    the ignored one. -/
theorem value : result b act full = RowMath.out b act full := by
  funext x
  obtain ⟨i, j, rfl⟩ : ∃ i j, x = ix2 i j := ⟨x 0, x 1, eq_ix2 x⟩
  refine congrArg (IntOp.maxsi _) (Eq.trans ?_ (RowMath.keep_select _ _))
  refine congrArg (fun w => Scalar.select _ w 0#32) ?_
  show Scalar.select (checked b (ix2 i j)) (Host.gather _ (labels act) (starts b) (ix2 i j)) _ = _
  rw [checked_at]
  exact (select_one _ _).trans (gather_at (labels act) _ i j ⟨RowMath.rank b i j.val, RowMath.rank_lt b i j.isLt⟩ (starts_at b i j 0))

end Cert.Proof.ReferenceValue

end
-- ==== Proof.ReferenceRun.lean ====
/-
  The reference's run: its operations in order, and what its buffers end holding.

  `main` is a straight line of host operations, some of them inside called functions. Each function's body is read as a
  list of operations (`whereOps`, `cumsumOps`, `clipOps`, `takeOps`), `main` as those lists between its own operations
  (`ops`, `main_seq`), and the run is the fold of the operations' results over the launch's contents (`run_seq`).
-/
module

public import proofs.«01_k».proof.Proof.ReferenceValue
public import Idealize.ShloMosaic.Lib.StableHlo.RunHlo

@[expose] public section

noncomputable section

namespace Cert.Proof.ReferenceRun

open Cert.ReferenceIdeal Cert.ReferenceIdeal.Gen Idealize.ShloMosaic Idealize.ShloMosaic.TcCoe Idealize.SL.Sem
open Idealize.ShloMosaic.StableHlo

variable {F : FTy → Type} [FloatOps F]

/-- A line that starts with a call: the callee's operations, then the rest's. -/
theorem call {p k : Prog (TpuEff nD τ sig (Elt F) (Pipeline.Sig Λ₀ (Fin 0) fun p => (pcfgs (F := F) p).Adm) .tc) PUnit}
    {xs ys : List (HloOp τ sig (Elt F))} (hp : IsSeq p xs) (hk : IsSeq k ys) : IsSeq (p >>= fun _ => k) (xs ++ ys) := by
  unfold IsSeq at hp hk ⊢
  rw [hp, hk, seq_append]

/-- `where`'s operation. -/
abbrev whereOps (c : TRef sig ⟨S16x4096, .i1⟩) (x y r : TRef sig ⟨S16x4096, .i32⟩) : List (HloOp τ sig (Elt F)) :=
  [TRef.ternary c x y r select]

/-- `cumsum`'s operations. -/
abbrev cumsumOps (x : TRef sig ⟨S16x4096, .i32⟩) (φ : fn_cumsum_0.Bufs) : List (HloOp τ sig (Elt F)) :=
  [TRef.nullary φ.c (constantI S_ 32 0#32),
   TRef.unary φ.c φ.v0 (broadcastInDim S_ ![] bcast_S_S_),
   TRef.binary x φ.v0 φ.v1 (fun x v => Host.reduceWindow IntOp.addi ![1, 4096] ![1, 1] ![0, 4095] ![0, 0] x v
     reduceWindows_S16x4096_S16x4096_w1s1p0_0_w4096s1p4095_0 h_S_)]

/-- `clip`'s operations. -/
abbrev clipOps (x : TRef sig ⟨S16x4096, .i32⟩) (lo hi : TRef sig ⟨S_, .i32⟩) (φ : fn_clip.Bufs) : List (HloOp τ sig (Elt F)) :=
  [TRef.unary lo φ.v0 id,
   TRef.unary φ.v0 φ.v1 (broadcastInDim S16x4096 ![] bcast_S_S16x4096),
   TRef.binary φ.v1 x φ.v2 maxsi,
   TRef.unary hi φ.v3 id,
   TRef.unary φ.v3 φ.v4 (broadcastInDim S16x4096 ![] bcast_S_S16x4096),
   TRef.binary φ.v4 φ.v2 φ.v5 minsi]

/-- `take_along_axis`'s operations. -/
abbrev takeOps (x ix : TRef sig ⟨S16x4096, .i32⟩) (φ : fn_take_along_axis.Bufs) : List (HloOp τ sig (Elt F)) :=
  [TRef.nullary φ.c (constantI S_ 32 0#32),
   TRef.unary φ.c φ.v0 (broadcastInDim S16x4096 ![] bcast_S_S16x4096),
   TRef.binary ix φ.v0 φ.v1 (cmpi .slt),
   TRef.nullary φ.c_0 (constantI S_ 32 4096#32),
   TRef.unary φ.c_0 φ.v2 (broadcastInDim S16x4096 ![] bcast_S_S16x4096),
   TRef.binary ix φ.v2 φ.v3 addi,
   TRef.ternary φ.v1 φ.v3 ix φ.v4 select,
   TRef.reshape φ.v4 φ.v5 (rfl : (.i32 : EltTy) = .i32) shapeCasts_S16x4096_S16x4096x1,
   TRef.nullary φ.c_1 (constantI S1 32 4095#32),
   TRef.nullary φ.c_2 (constantI S_ 32 0#32),
   TRef.unary φ.c_2 φ.v6 (broadcastInDim S16x4096x1 ![] bcast_S_S16x4096x1),
   TRef.binary φ.v5 φ.v6 φ.v7 (cmpi .sge),
   TRef.unary φ.c_1 φ.v8 (broadcastInDim S1x1x1 ![2] bcast_S1_S1x1x1_2),
   TRef.unary φ.v8 φ.v9 (broadcastInDim S16x4096x1 ![0, 1, 2] bcast_S1x1x1_S16x4096x1_0_1_2),
   TRef.binary φ.v5 φ.v9 φ.v10 (cmpi .sle),
   TRef.binary φ.v7 φ.v10 φ.v11 andi,
   TRef.nullary φ.c_3 (constantI S_ 1 1#1),
   TRef.binary φ.v11 φ.c_3 φ.v12 (fun x v => Host.reduce IntOp.andi x v reducesTo_S16x4096x1_S16x4096_d2 h_S_),
   TRef.binary x φ.v5 φ.v13 (fun x i => Host.gather gather_S16x4096_S16x4096x1_S16x4096_n_1_0_0_1_2_11 x i),
   TRef.nullary φ.c_4 (constantI S_ 32 2147483648#32),
   TRef.unary φ.c_4 φ.v14 (broadcastInDim S16x4096 ![] bcast_S_S16x4096),
   TRef.ternary φ.v12 φ.v13 φ.v14 φ.v15 select]

theorem where_seq (c : TRef sig ⟨S16x4096, .i1⟩) (x y : TRef sig ⟨S16x4096, .i32⟩) (φ : fn_where.Bufs) :
    IsSeq (fn_where.body (F := F) c x y φ) (whereOps c x y φ.v0) := by hlo_seq

theorem where_1_seq (c : TRef sig ⟨S16x4096, .i1⟩) (x y : TRef sig ⟨S16x4096, .i32⟩) (φ : fn_where_1.Bufs) :
    IsSeq (fn_where_1.body (F := F) c x y φ) (whereOps c x y φ.v0) := by hlo_seq

theorem cumsum_0_seq (x : TRef sig ⟨S16x4096, .i32⟩) (φ : fn_cumsum_0.Bufs) :
    IsSeq (fn_cumsum_0.body (F := F) x φ) (cumsumOps x φ) := by hlo_seq

theorem cumsum_seq (x : TRef sig ⟨S16x4096, .i32⟩) (φ : fn_cumsum.Bufs) :
    IsSeq (fn_cumsum.body (F := F) x φ) (cumsumOps x φ.call0 ++ []) := call (cumsum_0_seq x φ.call0) IsSeq.nil

theorem clip_seq (x : TRef sig ⟨S16x4096, .i32⟩) (lo hi : TRef sig ⟨S_, .i32⟩) (φ : fn_clip.Bufs) :
    IsSeq (fn_clip.body (F := F) x lo hi φ) (clipOps x lo hi φ) := by hlo_seq

theorem take_seq (x ix : TRef sig ⟨S16x4096, .i32⟩) (φ : fn_take_along_axis.Bufs) :
    IsSeq (fn_take_along_axis.body (F := F) x ix φ) (takeOps x ix φ) := by hlo_seq

/-- `main`'s operations, the called functions' in their calls' places. -/
abbrev ops : List (HloOp τ sig (Elt F)) :=
  nullary main_c (constantI S_ 32 4294967196#32) ::
  unary main_c main_v0 (broadcastInDim S16x4096 ![] bcast_S_S16x4096 : (⟨S_, .i32⟩ : BufTy).Contents (Elt F) → (⟨S16x4096, .i32⟩ : BufTy).Contents (Elt F)) ::
  binary main_arg0 main_v0 main_v1 (cmpi .ne : (⟨S16x4096, .i32⟩ : BufTy).Contents (Elt F) → (⟨S16x4096, .i32⟩ : BufTy).Contents (Elt F) → (⟨S16x4096, .i1⟩ : BufTy).Contents (Elt F)) ::
  nullary main_c_0 (constantI S_ 32 0#32) ::
  unary main_c_0 main_v2 (broadcastInDim S16x4096 ![] bcast_S_S16x4096 : (⟨S_, .i32⟩ : BufTy).Contents (Elt F) → (⟨S16x4096, .i32⟩ : BufTy).Contents (Elt F)) ::
  (whereOps (.of main_v1) (.of main_arg0) (.of main_v2) (.of main_v3) ++
  (unary main_arg1 main_v4 ((extui 32 · natLt_1_32) : (⟨S16x4096, .i1⟩ : BufTy).Contents (Elt F) → (⟨S16x4096, .i32⟩ : BufTy).Contents (Elt F)) ::
  ((cumsumOps (.of main_v4) main_call1_call0 ++ []) ++
  (nullary main_c_1 (constantI S_ 32 1#32) ::
  unary main_c_1 main_v6 (broadcastInDim S16x4096 ![] bcast_S_S16x4096 : (⟨S_, .i32⟩ : BufTy).Contents (Elt F) → (⟨S16x4096, .i32⟩ : BufTy).Contents (Elt F)) ::
  binary main_v5 main_v6 main_v7 (subi : (⟨S16x4096, .i32⟩ : BufTy).Contents (Elt F) → (⟨S16x4096, .i32⟩ : BufTy).Contents (Elt F) → (⟨S16x4096, .i32⟩ : BufTy).Contents (Elt F)) ::
  nullary main_c_2 (constantI S_ 32 0#32) ::
  nullary main_c_3 (constantI S_ 32 4095#32) ::
  (clipOps (.of main_v7) (.of main_c_2) (.of main_c_3) main_call2 ++
  (takeOps (.of main_v3) (.of main_v8) main_call3 ++
  (nullary main_c_4 (constantI S_ 32 0#32) ::
  unary main_c_4 main_v10 (broadcastInDim S16x4096 ![] bcast_S_S16x4096 : (⟨S_, .i32⟩ : BufTy).Contents (Elt F) → (⟨S16x4096, .i32⟩ : BufTy).Contents (Elt F)) ::
  (whereOps (.of main_arg1) (.of main_v9) (.of main_v10) (.of main_v11) ++
  [binary main_arg2 main_v11 main_v12 (maxsi : (⟨S16x4096, .i32⟩ : BufTy).Contents (Elt F) → (⟨S16x4096, .i32⟩ : BufTy).Contents (Elt F) → (⟨S16x4096, .i32⟩ : BufTy).Contents (Elt F))]))))))))

theorem main_seq (c : Dev nD) : IsSeq (main (F := F) c) ops :=
  .cons <| .cons <| .cons <| .cons <| .cons <| call (where_seq _ _ _ main_call0) <| .cons <| call (cumsum_seq _ main_call1) <|
  .cons <| .cons <| .cons <| .cons <| .cons <| call (clip_seq _ _ _ main_call2) <| call (take_seq _ _ main_call3) <|
  .cons <| .cons <| call (where_1_seq _ _ _ main_call4) <| .cons .nil

theorem scopedRefs_eq : (Finset.univ.filter fun b : Ref sig .tc => b.isScoped) = ∅ := by decide
theorem scopedSems_eq : (Finset.univ.filter fun sm : SemLoc sig => sm.isScoped .tc) = ∅ := by decide

variable (m : (ℓ : Loc nD τ sig) → Buf (Elt F) ℓ) (ρ : Dev nD → PrngReg)

set_option maxHeartbeats 2000000 in
set_option maxRecDepth 8192 in
/-- What the run leaves in the result's buffer: the operations composed. -/
theorem after_result (c : Dev nD) :
    after (ops (F := F)) (launchContents m c) (Proc.devRef .tc main_v12)
      = ReferenceValue.result (m ((c.tc : Thread nD τ).loc main_arg1)) (m ((c.tc : Thread nD τ).loc main_arg0)) (m ((c.tc : Thread nD τ).loc main_arg2)) := by
  simp only [ops, whereOps, cumsumOps, clipOps, takeOps, List.cons_append, List.nil_append, List.append_nil,
    TRef.binary, TRef.nullary, TRef.reshape, TRef.ternary, TRef.unary, TRef.toBuf, TRef.ofBuf, cast_eq]
  after_results_simp
  rfl

/-- No operation writes an argument. -/
theorem after_arg (c : Dev nD) (b : Ref sig .tc) (hb : b = main_arg0 ∨ b = main_arg1 ∨ b = main_arg2) :
    after (ops (F := F)) (launchContents m c) (Proc.devRef .tc b) = m ((c.tc : Thread nD τ).loc b) := by
  simp only [ops, whereOps, cumsumOps, clipOps, takeOps, List.cons_append, List.nil_append, List.append_nil,
    TRef.binary, TRef.nullary, TRef.reshape, TRef.ternary, TRef.unary, TRef.toBuf, TRef.ofBuf, cast_eq]
  rcases hb with rfl | rfl | rfl <;> after_results_simp <;> rfl

set_option maxRecDepth 8192 in
/-- Every buffer an operation touches is one of the core's. -/
theorem ops_sub : (ops (F := F)).Forall fun op => op.bufs ⊆ tcRefs τ sig := by
  simp only [ops, whereOps, cumsumOps, clipOps, takeOps, List.cons_append, List.nil_append, List.append_nil]
  simp

/-- Every weakly fair execution of the reference ends with its result at `RowMath.out` of its arguments, and
    its arguments as they were. -/
theorem run : θ_run (Cert.ReferenceIdeal.defs (F := F)) (onTc (τ := τ) (main (F := F))) ⟨m, fun _ => 0, ρ⟩ fun r => ∀ c : Dev nD,
    r.2.mem ((c.tc : Thread nD τ).loc main_v12)
        = RowMath.out (m ((c.tc : Thread nD τ).loc main_arg1)) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (run_hlo defs main main_seq scopedRefs_eq scopedSems_eq ops_sub
      (by intro _ h; (repeat (cases h with | head => rfl | tail _ h => ?_)); exact nomatch h) m ρ) fun _ h c =>
    ⟨(h c main_v12).trans ((after_result m c).trans (ReferenceValue.value _ _ _)),
      (h c main_arg0).trans (after_arg m c _ (.inl rfl)), (h c main_arg1).trans (after_arg m c _ (.inr (.inl rfl))),
      (h c main_arg2).trans (after_arg m c _ (.inr (.inr rfl)))⟩

end Cert.Proof.ReferenceRun

end
-- ==== Proof.lean ====
/-
  The proof of `Cert.Claim` (proofs.«01_k».proof.Defs).

  Both kernel programs end with the result `RowMath.out` of their arguments (Proof/KernelRun.lean at the bit-exact floats,
  Proof/KernelIdealRun.lean at the ideal ones), and so does the reference (Proof/ReferenceRun.lean); each leaves its
  arguments as they were and every semaphore at zero. The claims are these three runs, read off.
-/
module

public import proofs.«01_k».proof.Defs
public import proofs.«01_k».proof.Proof.KernelRun
public import proofs.«01_k».proof.Proof.KernelIdealRun
public import proofs.«01_k».proof.Proof.ReferenceRun
public import Idealize.ShloMosaic.Lib.Quiescent

@[expose] public section

noncomputable section

namespace Cert.Proof

open Idealize.ShloMosaic Idealize.SL.Sem

/-- The kernel at the bit-exact floats ends, its arguments unchanged and its semaphores at zero. -/
theorem frame_kernel : Cert.quiescent_Kernel := fun m g _ =>
  (θ_run Cert.Kernel.defs _ _).mono (fun _ h => ⟨fun c => ⟨(h.1 c).1, (h.1 c).2.1, (h.1 c).2.2.1⟩, h.2⟩)
    (KernelRun.run_main (F := Bits) m g)

/-- The same of its idealization. -/
theorem frame_kernelIdeal : Cert.quiescent_KernelIdeal := fun m g _ =>
  (θ_run Cert.KernelIdeal.defs _ _).mono (fun _ h => ⟨fun c => ⟨(h.1 c).1, (h.1 c).2.1, (h.1 c).2.2.1⟩, h.2⟩)
    (KernelIdealRun.run_main (F := Ideal) m g)

/-- The reference ends, its arguments unchanged; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (ReferenceRun.run (F := Ideal) m g)

/-- From equal arguments the two end with equal results: both results the kernel returns, its first argument passed
    through and the larger of the full and the gathered labels. -/
theorem equal_results : Cert.algebraic_KernelIdeal_ReferenceIdeal := by
  intro m g m' g' _ hargs
  refine ⟨fun c => m (KernelIdealRun.aLoc c), fun c => KernelIdealRun.resV m c, ?_, ?_⟩
  · exact (θ_run Cert.KernelIdeal.defs _ _).mono
      (fun _ h c => ⟨(h.1 c).1, (h.1 c).2.2.2, (h.1 c).1, (h.1 c).2.1, (h.1 c).2.2.1⟩) (KernelIdealRun.run_main (F := Ideal) m g)
  · refine (θ_run Cert.ReferenceIdeal.defs _ _).mono (fun r h c => ?_) (ReferenceRun.run (F := Ideal) m' g')
    obtain ⟨ha, hb, hf⟩ := hargs c
    obtain ⟨hr, hk⟩ := h c
    refine ⟨hk.1.trans ha, hr.trans ?_, hk⟩
    rw [ha, hb, hf]
    rfl

theorem claim : Cert.Claim :=
  ⟨Cert.Kernel.Gen.facts, Cert.KernelIdeal.Gen.facts, Cert.ReferenceIdeal.Gen.facts,
    frame_kernel, frame_kernelIdeal, frame_reference, trivial, equal_results⟩

end Cert.Proof

end
